-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_inf [hPre_below_inf : Cert.Pre_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_below_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_inf [hPre_below_inf : Cert.Pre_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_below_inf [hKernelIdeal : Cert.KernelIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_below_inf [hReferenceIdeal : Cert.ReferenceIdeal.Facts] [hPre_below_inf : Cert.Pre_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_below_inf [hKernelIdeal : Cert.KernelIdeal.Facts] [hReferenceIdeal : Cert.ReferenceIdeal.Facts] [hPre_below_inf : Cert.Pre_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_below_inf : Cert.Pre_below_inf.Facts),
    quiescent_Kernel (hKernel := hKernel)
    ∧ quiescent_KernelIdeal (hKernelIdeal := hKernelIdeal)
    ∧ quiescent_KernelIdeal_pre_below_inf (hKernelIdeal := hKernelIdeal) (hPre_below_inf := hPre_below_inf)
    ∧ quiescent_ReferenceIdeal (hReferenceIdeal := hReferenceIdeal)
    ∧ quiescent_ReferenceIdeal_pre_below_inf (hReferenceIdeal := hReferenceIdeal) (hPre_below_inf := hPre_below_inf)
    ∧ preserves_Kernel_KernelIdeal
    ∧ algebraic_KernelIdeal_ReferenceIdeal_pre_below_inf (hKernelIdeal := hKernelIdeal) (hReferenceIdeal := hReferenceIdeal) (hPre_below_inf := hPre_below_inf)
-- ==== Pre_below_inf.lean ====
abbrev S16x512x512 : Shape := ⟨3, ![16, 512, 512]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel

variable [Facts]

def fn {F : FTy → Type} [FloatOps F] (main_arg0 : FVec F S16x512x512 .f32) : IVec S_ 1 :=
  let main_cst : FVec F S_ .f32 := constant S_ .f32 0x7F800000#32
  let main_v0 : FVec F S16x512x512 .f32 := broadcastInDim S16x512x512 ![] bcast_S_S16x512x512 main_cst
  let main_v1 : IVec S16x512x512 1 := cmpf .olt main_arg0 main_v0
  let main_c : IVec S_ 1 := constantI S_ 1 1#1
  let main_v2 : IVec S_ 1 := (fun x v => Host.reduce IntOp.andi x v reducesTo_S16x512x512_S_d0_1_2 h_S_) main_v1 main_c
  main_v2
-- ==== Kernel.lean ====
abbrev S16x512x512 : Shape := ⟨3, ![16, 512, 512]⟩
abbrev S512x16x512 : Shape := ⟨3, ![512, 16, 512]⟩
abbrev S16x512 : Shape := ⟨2, ![16, 512]⟩
abbrev S8x16x512 : Shape := ⟨3, ![8, 16, 512]⟩
abbrev S1x16x512 : Shape := ⟨3, ![1, 16, 512]⟩
abbrev S16x511 : Shape := ⟨2, ![16, 511]⟩
abbrev S16x1 : Shape := ⟨2, ![16, 1]⟩
abbrev S16x2 : Shape := ⟨2, ![16, 2]⟩
abbrev S16x510 : Shape := ⟨2, ![16, 510]⟩
abbrev S16x4 : Shape := ⟨2, ![16, 4]⟩
abbrev S16x508 : Shape := ⟨2, ![16, 508]⟩
abbrev S16x8 : Shape := ⟨2, ![16, 8]⟩
abbrev S16x504 : Shape := ⟨2, ![16, 504]⟩
abbrev S16x16 : Shape := ⟨2, ![16, 16]⟩
abbrev S16x496 : Shape := ⟨2, ![16, 496]⟩
abbrev S16x32 : Shape := ⟨2, ![16, 32]⟩
abbrev S16x480 : Shape := ⟨2, ![16, 480]⟩
abbrev S16x64 : Shape := ⟨2, ![16, 64]⟩
abbrev S16x448 : Shape := ⟨2, ![16, 448]⟩
abbrev S16x128 : Shape := ⟨2, ![16, 128]⟩
abbrev S16x384 : Shape := ⟨2, ![16, 384]⟩
abbrev S16x256 : Shape := ⟨2, ![16, 256]⟩
abbrev S16 : Shape := ⟨1, ![16]⟩

abbrev nBuf : Space → Nat
  | .hbm => 5
  | .vmem => 5
  | .smem => 0
  | _ => 0

abbrev bufTy : (tb : Table) → Fin (tcTables nBuf tb) → BufTy
  | .hbm, ⟨0, _⟩ => ⟨S16x512x512, .f32⟩
  | .hbm, ⟨1, _⟩ => ⟨S512x16x512, .f32⟩
  | .hbm, ⟨2, _⟩ => ⟨S16x512, .f32⟩
  | .hbm, ⟨3, _⟩ => ⟨S16x1, .f32⟩
  | .hbm, ⟨4, _⟩ => ⟨S16, .f32⟩
  | .local _ .vmem, ⟨0, _⟩ => ⟨S8x16x512, .f32⟩
  | .local _ .vmem, ⟨1, _⟩ => ⟨S8x16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond3 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_5 : BitVec 32 := 0#32
  let v26 : BitVec 1 := Scalar.cmpi .ne v25 c0_i32_5
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== KernelIdeal.lean ====
variable {F : FTy → Type} [FloatOps F] [Named F]
def κ : String → Option EReal := fun
  | "big" => some ⊤
  | _ => none
-- ==== ReferenceIdeal.lean ====
abbrev S16x512x512 : Shape := ⟨3, ![16, 512, 512]⟩
abbrev S16x512x511 : Shape := ⟨3, ![16, 512, 511]⟩
abbrev S_ : Shape := ⟨0, ![]⟩
abbrev S16x511x512 : Shape := ⟨3, ![16, 511, 512]⟩
abbrev S16x511x511 : Shape := ⟨3, ![16, 511, 511]⟩
abbrev S16x1 : Shape := ⟨2, ![16, 1]⟩
abbrev S16x1x511 : Shape := ⟨3, ![16, 1, 511]⟩
abbrev S16x511 : Shape := ⟨2, ![16, 511]⟩
abbrev S16x512 : Shape := ⟨2, ![16, 512]⟩
abbrev S511x512x16 : Shape := ⟨3, ![511, 512, 16]⟩
abbrev S261632x16 : Shape := ⟨2, ![261632, 16]⟩
abbrev S16x513 : Shape := ⟨2, ![16, 513]⟩
abbrev S1x16 : Shape := ⟨2, ![1, 16]⟩
abbrev S16 : Shape := ⟨1, ![16]⟩

abbrev nBuf : Space → Nat
  | .hbm => 118
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S16x512x511, .f32⟩
  | .hbm, ⟨2, _⟩ => ⟨S16x512x511, .f32⟩
  | .hbm, ⟨3, _⟩ => ⟨S16x512x511, .f32⟩
  | .hbm, ⟨4, _⟩ => ⟨S_, .f32⟩
  | .hbm, ⟨5, _⟩ => ⟨S16x512x511, .f32⟩
  | .hbm, ⟨6, _⟩ => ⟨S16x512x511, .f32⟩
  | .hbm, ⟨7, _⟩ => ⟨S_, .f32⟩
  | .hbm, ⟨8, _⟩ => ⟨S16x512x511, .f32⟩
  | .hbm, ⟨9, _⟩ => ⟨S16x512x511, .f32⟩
  | .hbm, ⟨10, _⟩ => ⟨S16x512x511, .f32⟩
  | .hbm, ⟨11, _⟩ => ⟨S16x512x511, .f32⟩
  | .hbm, ⟨12, _⟩ => ⟨S16x512x511, .i1⟩
  | .hbm, ⟨13, _⟩ => ⟨S16x512x511, .f32⟩
  | .hbm, ⟨14, _⟩ => ⟨S16x512x511, .f32⟩
  | .hbm, ⟨15, _⟩ => ⟨S16x512x511, .f32⟩
  | .hbm, ⟨16, _⟩ => ⟨S16x512x511, .f32⟩
  | .hbm, ⟨17, _⟩ => ⟨S16x512x511, .f32⟩
  | .hbm, ⟨18, _⟩ => ⟨S16x512x511, .f32⟩
  | .hbm, ⟨19, _⟩ => ⟨S16x512x511, .f32⟩
  | .hbm, ⟨20, _⟩ => ⟨S16x512x511, .f32⟩
  | .hbm, ⟨21, _⟩ => ⟨S16x511x512, .f32⟩
  | .hbm, ⟨22, _⟩ => ⟨S16x511x512, .f32⟩
  | .hbm, ⟨23, _⟩ => ⟨S16x511x512, .f32⟩
  | .hbm, ⟨24, _⟩ => ⟨S_, .f32⟩
  | .hbm, ⟨25, _⟩ => ⟨S16x511x512, .f32⟩
  | .hbm, ⟨26, _⟩ => ⟨S16x511x512, .f32⟩
  | .hbm, ⟨27, _⟩ => ⟨S_, .f32⟩
  | .hbm, ⟨28, _⟩ => ⟨S16x511x512, .f32⟩
  | .hbm, ⟨29, _⟩ => ⟨S16x511x512, .f32⟩
  | .hbm, ⟨30, _⟩ => ⟨S16x511x512, .f32⟩
  | .hbm, ⟨31, _⟩ => ⟨S16x511x512, .f32⟩
  | .hbm, ⟨32, _⟩ => ⟨S16x511x512, .i1⟩
  | .hbm, ⟨33, _⟩ => ⟨S16x511x512, .f32⟩
  | .hbm, ⟨34, _⟩ => ⟨S16x511x512, .f32⟩
  | .hbm, ⟨35, _⟩ => ⟨S16x511x512, .f32⟩
  | .hbm, ⟨36, _⟩ => ⟨S16x511x512, .f32⟩
  | .hbm, ⟨37, _⟩ => ⟨S16x511x512, .f32⟩
  | .hbm, ⟨38, _⟩ => ⟨S16x511x512, .f32⟩
  | .hbm, ⟨39, _⟩ => ⟨S16x511x512, .f32⟩
  | .hbm, ⟨40, _⟩ => ⟨S16x511x512, .f32⟩
  | .hbm, ⟨41, _⟩ => ⟨S16x511x511, .f32⟩
  | .hbm, ⟨42, _⟩ => ⟨S16x511x511, .f32⟩
  | .hbm, ⟨43, _⟩ => ⟨S16x511x511, .f32⟩
  | .hbm, ⟨44, _⟩ => ⟨S_, .f32⟩
  | .hbm, ⟨45, _⟩ => ⟨S16x511x511, .f32⟩
  | .hbm, ⟨46, _⟩ => ⟨S16x511x511, .f32⟩
  | .hbm, ⟨47, _⟩ => ⟨S_, .f32⟩
  | .hbm, ⟨48, _⟩ => ⟨S16x511x511, .f32⟩
  | .hbm, ⟨49, _⟩ => ⟨S16x511x511, .f32⟩
  | .hbm, ⟨50, _⟩ => ⟨S16x511x511, .f32⟩
  | .hbm, ⟨51, _⟩ => ⟨S16x511x511, .f32⟩
  | .hbm, ⟨52, _⟩ => ⟨S16x511x511, .i1⟩
  | .hbm, ⟨53, _⟩ => ⟨S16x511x511, .f32⟩
  | .hbm, ⟨54, _⟩ => ⟨S16x511x511, .f32⟩
  | .hbm, ⟨55, _⟩ => ⟨S16x511x511, .f32⟩
  | .hbm, ⟨56, _⟩ => ⟨S16x511x511, .f32⟩
  | .hbm, ⟨57, _⟩ => ⟨S16x511x511, .f32⟩
  | .hbm, ⟨58, _⟩ => ⟨S16x511x511, .f32⟩
  | .hbm, ⟨59, _⟩ => ⟨S16x511x511, .f32⟩
  | .hbm, ⟨60, _⟩ => ⟨S16x511x511, .f32⟩
  | .hbm, ⟨61, _⟩ => ⟨S_, .f32⟩
  | .hbm, ⟨62, _⟩ => ⟨S16x1, .f32⟩
  | .hbm, ⟨63, _⟩ => ⟨S16x1x511, .f32⟩
  | .hbm, ⟨64, _⟩ => ⟨S16x511, .f32⟩
  | .hbm, ⟨65, _⟩ => ⟨S_, .f32⟩
  | .hbm, ⟨66, _⟩ => ⟨S_, .f32⟩
  | .hbm, ⟨67, _⟩ => ⟨S16x511, .f32⟩
  | .hbm, ⟨68, _⟩ => ⟨S16x512, .f32⟩
  | .hbm, ⟨69, _⟩ => ⟨S_, .f32⟩
  | .hbm, ⟨70, _⟩ => ⟨S16x512x512, .f32⟩
  | .hbm, ⟨71, _⟩ => ⟨S_, .f32⟩
  | .hbm, ⟨72, _⟩ => ⟨S16x511x512, .f32⟩
  | .hbm, ⟨73, _⟩ => ⟨S511x512x16, .f32⟩
  | .hbm, ⟨74, _⟩ => ⟨S261632x16, .f32⟩
  | .hbm, ⟨75, _⟩ => ⟨S511x512x16, .f32⟩
  | .hbm, ⟨76, _⟩ => ⟨S261632x16, .f32⟩
  | .hbm, ⟨77, _⟩ => ⟨S16x511x512, .f32⟩
  | .hbm, ⟨78, _⟩ => ⟨S511x512x16, .f32⟩
  | .hbm, ⟨79, _⟩ => ⟨S261632x16, .f32⟩
  | .hbm, ⟨80, _⟩ => ⟨S_, .f32⟩
  | .hbm, ⟨81, _⟩ => ⟨S16x1, .f32⟩
  | .hbm, ⟨82, _⟩ => ⟨S16x513, .f32⟩
  | .hbm, ⟨83, _⟩ => ⟨S_, .i32⟩
  | .hbm, ⟨84, _⟩ => ⟨S261632x16, .f32⟩
  | .hbm, ⟨85, _⟩ => ⟨S261632x16, .f32⟩
  | .hbm, ⟨86, _⟩ => ⟨S261632x16, .f32⟩
  | .hbm, ⟨87, _⟩ => ⟨S_, .i32⟩
  | .hbm, ⟨88, _⟩ => ⟨S16x513, .f32⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S1x16, .f32⟩
  | .hbm, ⟨93, _⟩ => ⟨S16, .f32⟩
  | .hbm, ⟨94, _⟩ => ⟨S_, .i32⟩
  | .hbm, ⟨95, _⟩ => ⟨S1x16, .f32⟩
  | .hbm, ⟨96, _⟩ => ⟨S16, .f32⟩
  | .hbm, ⟨97, _⟩ => ⟨S_, .i32⟩
  | .hbm, ⟨98, _⟩ => ⟨S1x16, .f32⟩
  | .hbm, ⟨99, _⟩ => ⟨S16, .f32⟩
  | .hbm, ⟨100, _⟩ => ⟨S16x1, .f32⟩
  | .hbm, ⟨101, _⟩ => ⟨S16, .f32⟩
  | .hbm, ⟨102, _⟩ => ⟨S16, .f32⟩
  | .hbm, ⟨103, _⟩ => ⟨S16x1, .f32⟩
  | .hbm, ⟨104, _⟩ => ⟨S16, .f32⟩
  | .hbm, ⟨105, _⟩ => ⟨S16, .f32⟩
  | .hbm, ⟨106, _⟩ => ⟨S16, .f32⟩
  | .hbm, ⟨107, _⟩ => ⟨S16x1, .f32⟩
  | .hbm, ⟨108, _⟩ => ⟨S16, .f32⟩
  | .hbm, ⟨109, _⟩ => ⟨S16, .f32⟩
  | .hbm, ⟨110, _⟩ => ⟨S16, .f32⟩
  | .hbm, ⟨111, _⟩ => ⟨S16x512, .f32⟩
  | .hbm, ⟨112, _⟩ => ⟨S16x1, .f32⟩
  | .hbm, ⟨113, _⟩ => ⟨S16x513, .f32⟩
  | .hbm, ⟨114, _⟩ => ⟨S_, .i32⟩
  | .hbm, ⟨115, _⟩ => ⟨S_, .i32⟩
  | .hbm, ⟨116, _⟩ => ⟨S16x1, .f32⟩
  | .hbm, ⟨117, _⟩ => ⟨S16, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_v16 : Ref sig .tc := ⟨.hbm, 46, rfl⟩
abbrev main_call2_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_v17 : Ref sig .tc := ⟨.hbm, 60, rfl⟩
abbrev main_cst_2 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_call3_call0_cst : Ref sig .tc := ⟨.hbm, 65, rfl⟩
abbrev main_call3_call0_v0 : Ref sig .tc := ⟨.hbm, 66, rfl⟩
abbrev main_v21 : Ref sig .tc := ⟨.hbm, 67, rfl⟩
abbrev main_v22 : Ref sig .tc := ⟨.hbm, 68, rfl⟩
abbrev main_cst_3 : Ref sig .tc := ⟨.hbm, 69, rfl⟩
abbrev main_v23 : Ref sig .tc := ⟨.hbm, 70, rfl⟩
abbrev main_cst_4 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_cst_5 : Ref sig .tc := ⟨.hbm, 80, rfl⟩
abbrev main_v32 : Ref sig .tc := ⟨.hbm, 81, rfl⟩
abbrev main_v33 : Ref sig .tc := ⟨.hbm, 82, rfl⟩
abbrev main_c : Ref sig .tc := ⟨.hbm, 83, rfl⟩
abbrev main_v34_0 : Ref sig .tc := ⟨.hbm, 84, rfl⟩
abbrev main_v34_1 : Ref sig .tc := ⟨.hbm, 85, rfl⟩
abbrev main_v34_2 : Ref sig .tc := ⟨.hbm, 86, rfl⟩
abbrev main_v34_3 : Ref sig .tc := ⟨.hbm, 87, rfl⟩
abbrev main_v34_4 : Ref sig .tc := ⟨.hbm, 88, rfl⟩
abbrev main_while0c_c_10 : Ref sig .tc := ⟨.hbm, 89, rfl⟩
abbrev main_while0c_v37 : Ref sig .tc := ⟨.hbm, 90, rfl⟩
abbrev main_while0b_call6_c : Ref sig .tc := ⟨.hbm, 91, rfl⟩
abbrev main_while0b_call6_v0 : Ref sig .tc := ⟨.hbm, 92, rfl⟩
abbrev main_while0b_v37 : Ref sig .tc := ⟨.hbm, 93, rfl⟩
abbrev main_while0b_call7_c : Ref sig .tc := ⟨.hbm, 94, rfl⟩
abbrev main_while0b_call7_v0 : Ref sig .tc := ⟨.hbm, 95, rfl⟩
abbrev main_while0b_v38 : Ref sig .tc := ⟨.hbm, 96, rfl⟩
abbrev main_while0b_call8_c : Ref sig .tc := ⟨.hbm, 97, rfl⟩
abbrev main_while0b_call8_v0 : Ref sig .tc := ⟨.hbm, 98, rfl⟩
abbrev main_while0b_v39 : Ref sig .tc := ⟨.hbm, 99, rfl⟩
abbrev main_while0b_v40 : Ref sig .tc := ⟨.hbm, 100, rfl⟩
abbrev main_while0b_v41 : Ref sig .tc := ⟨.hbm, 101, rfl⟩
abbrev main_while0b_v42 : Ref sig .tc := ⟨.hbm, 102, rfl⟩
abbrev main_while0b_v43 : Ref sig .tc := ⟨.hbm, 103, rfl⟩
abbrev main_while0b_v44 : Ref sig .tc := ⟨.hbm, 104, rfl⟩
abbrev main_while0b_v45 : Ref sig .tc := ⟨.hbm, 105, rfl⟩
abbrev main_while0b_v46 : Ref sig .tc := ⟨.hbm, 106, rfl⟩
abbrev main_while0b_v47 : Ref sig .tc := ⟨.hbm, 107, rfl⟩
abbrev main_while0b_v48 : Ref sig .tc := ⟨.hbm, 108, rfl⟩
abbrev main_while0b_v49 : Ref sig .tc := ⟨.hbm, 109, rfl⟩
abbrev main_while0b_v50 : Ref sig .tc := ⟨.hbm, 110, rfl⟩
abbrev main_while0b_v51 : Ref sig .tc := ⟨.hbm, 111, rfl⟩
abbrev main_while0b_v52 : Ref sig .tc := ⟨.hbm, 112, rfl⟩
abbrev main_while0b_v53 : Ref sig .tc := ⟨.hbm, 113, rfl⟩
abbrev main_while0b_c_10 : Ref sig .tc := ⟨.hbm, 114, rfl⟩
abbrev main_while0b_v54 : Ref sig .tc := ⟨.hbm, 115, rfl⟩
abbrev main_v35 : Ref sig .tc := ⟨.hbm, 116, rfl⟩
abbrev main_v36 : Ref sig .tc := ⟨.hbm, 117, rfl⟩

abbrev nD : Nat := 1
abbrev τ : Topo := Topo.v7x

variable {F : FTy → Type} [FloatOps F]

abbrev main_while0_count : Scf.Loop 32 := ⟨0#32, 261632#32, 1#32⟩
-- ==== Proof.RefRun.lean ====
/- What the reference's loop starts with: its five carried buffers as arrays of the argument. -/
module

public import proofs.«01_k».proof.Proof.Gen.ReferenceIdeal.Run
public import proofs.«01_k».proof.Proof.Gen.ReferenceIdeal.Step

@[expose] public section

set_option maxRecDepth 16384

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]
variable (m : (ℓ : Loc nD τ sig) → Buf (Elt F) ℓ) (c : Dev nD)

/-- The loop's counter starts at 0. -/
theorem entry3 : entryContents preI m c (Proc.devRef .tc main_v34_3) = constantI S_ 32 0#32 := by
  simp only [entryContents, afterL_cons, afterL_nil]; after_reads_simp; rfl

/-- The loop starts with the weights of the moves down. -/
theorem entry0 : entryContents preI m c (Proc.devRef .tc main_v34_0) = A_main_v26 (m ((c.tc : Thread nD τ).loc main_arg0)) := by
  simp only [entryContents, afterL_cons, afterL_nil]; after_reads_simp; rfl

/-- The loop starts with the weights of the diagonal moves. -/
theorem entry1 : entryContents preI m c (Proc.devRef .tc main_v34_1) = A_main_v28 (m ((c.tc : Thread nD τ).loc main_arg0)) := by
  simp only [entryContents, afterL_cons, afterL_nil]; after_reads_simp; rfl

/-- The loop starts with the weights of the moves to the right. -/
theorem entry2 : entryContents preI m c (Proc.devRef .tc main_v34_2) = A_main_v31 (m ((c.tc : Thread nD τ).loc main_arg0)) := by
  simp only [entryContents, afterL_cons, afterL_nil]; after_reads_simp; rfl

/-- The contents after the stretches that make the first row's running sums. -/
def early : Valuation τ sig (Elt F) :=
  afterL [hostOps0, hostOps0_1, hostOps0_2, hostOps0_3, hostOps0_4, hostOps0_5, hostOps0_6, hostOps0_7] (launchContents m c)

/-- After the early stretches the column of zeros is in place. -/
theorem early_v18 : early m c (Proc.devRef .tc main_v18) = K_main_v18 := by
  simp only [early, afterL_cons, afterL_nil]; after_reads_simp; rfl

/-- After the early stretches the first row's running sums are in place. -/
theorem early_v21 : early m c (Proc.devRef .tc main_v21) = A_main_v21 (m ((c.tc : Thread nD τ).loc main_arg0)) := by
  simp only [early, afterL_cons, afterL_nil]; after_reads_simp; rfl

/-- The late stretches join the infinite column, the column of zeros and the running sums into the loop's first row. -/
theorem late_v34_4 (W : Valuation τ sig (Elt F)) :
    afterL [hostOps0_8, hostOps0_9, hostOps0_10, hostOps0_11, hostOps0_12] W (Proc.devRef .tc main_v34_4)
      = concatenate S16x513 1 [⟨S16x1, K_main_v32⟩, ⟨S16x512, concatenate S16x512 1
          [⟨S16x1, W (Proc.devRef .tc main_v18)⟩, ⟨S16x511, W (Proc.devRef .tc main_v21)⟩] concatenates_S16x1_S16x511_S16x512_d1⟩]
          concatenates_S16x1_S16x512_S16x513_d1 := by
  simp only [afterL_cons, afterL_nil]; after_reads_simp; rfl

/-- The loop starts with the first row of distances, an infinite entry in front. -/
theorem entry4 : entryContents preI m c (Proc.devRef .tc main_v34_4) = A_main_v33 (m ((c.tc : Thread nD τ).loc main_arg0)) := by
  refine (late_v34_4 (early m c)).trans ?_
  rw [early_v18, early_v21]
  rfl

end Cert.Proof.RefRun

end
-- ==== Proof.Row.lean ====
/- What one row of the distances is computed by, as operations on whole rows of vectors: the shift of a row by
   a number of columns, the running sum and the running minimum by nine doubling steps, softplus, and the
   update of one row from the row above. The kernel's printed payloads are compositions of these. -/
module

public import proofs.«01_k».proof.Proof.Gen.KernelIdeal

@[expose] public section

set_option maxRecDepth 16384

noncomputable section

namespace Cert.Proof.Row

open Idealize.ShloMosaic Idealize.SL.Sem Cert.KernelIdeal Cert.KernelIdeal.Gen

variable {F : FTy → Type} [FloatOps F] [Named F]

/-- The rows of one image line for the sixteen images. -/
abbrev Line (F : FTy → Type) := FVec F S16x512 .f32

/-- The line moved 1 column to the right, the columns it leaves free filled with `z`. -/
def shift1 (z : F .f32) (x : Line F) : Line F :=
  concatenate S16x512 1 [⟨S16x1, broadcast S16x1 z⟩, ⟨S16x511, extractStridedSlice S16x511 ![0, 0] x slices_S16x512_o0_0_S16x511⟩]
    concatenates_S16x1_S16x511_S16x512_d1

/-- The line moved 2 columns to the right, the columns it leaves free filled with `z`. -/
def shift2 (z : F .f32) (x : Line F) : Line F :=
  concatenate S16x512 1 [⟨S16x2, broadcast S16x2 z⟩, ⟨S16x510, extractStridedSlice S16x510 ![0, 0] x slices_S16x512_o0_0_S16x510⟩]
    concatenates_S16x2_S16x510_S16x512_d1

/-- The line moved 4 columns to the right, the columns it leaves free filled with `z`. -/
def shift4 (z : F .f32) (x : Line F) : Line F :=
  concatenate S16x512 1 [⟨S16x4, broadcast S16x4 z⟩, ⟨S16x508, extractStridedSlice S16x508 ![0, 0] x slices_S16x512_o0_0_S16x508⟩]
    concatenates_S16x4_S16x508_S16x512_d1

/-- The line moved 8 columns to the right, the columns it leaves free filled with `z`. -/
def shift8 (z : F .f32) (x : Line F) : Line F :=
  concatenate S16x512 1 [⟨S16x8, broadcast S16x8 z⟩, ⟨S16x504, extractStridedSlice S16x504 ![0, 0] x slices_S16x512_o0_0_S16x504⟩]
    concatenates_S16x8_S16x504_S16x512_d1

/-- The line moved 16 columns to the right, the columns it leaves free filled with `z`. -/
def shift16 (z : F .f32) (x : Line F) : Line F :=
  concatenate S16x512 1 [⟨S16x16, broadcast S16x16 z⟩, ⟨S16x496, extractStridedSlice S16x496 ![0, 0] x slices_S16x512_o0_0_S16x496⟩]
    concatenates_S16x16_S16x496_S16x512_d1

/-- The line moved 32 columns to the right, the columns it leaves free filled with `z`. -/
def shift32 (z : F .f32) (x : Line F) : Line F :=
  concatenate S16x512 1 [⟨S16x32, broadcast S16x32 z⟩, ⟨S16x480, extractStridedSlice S16x480 ![0, 0] x slices_S16x512_o0_0_S16x480⟩]
    concatenates_S16x32_S16x480_S16x512_d1

/-- The line moved 64 columns to the right, the columns it leaves free filled with `z`. -/
def shift64 (z : F .f32) (x : Line F) : Line F :=
  concatenate S16x512 1 [⟨S16x64, broadcast S16x64 z⟩, ⟨S16x448, extractStridedSlice S16x448 ![0, 0] x slices_S16x512_o0_0_S16x448⟩]
    concatenates_S16x64_S16x448_S16x512_d1

/-- The line moved 128 columns to the right, the columns it leaves free filled with `z`. -/
def shift128 (z : F .f32) (x : Line F) : Line F :=
  concatenate S16x512 1 [⟨S16x128, broadcast S16x128 z⟩, ⟨S16x384, extractStridedSlice S16x384 ![0, 0] x slices_S16x512_o0_0_S16x384⟩]
    concatenates_S16x128_S16x384_S16x512_d1

/-- The line moved 256 columns to the right, the columns it leaves free filled with `z`. -/
def shift256 (z : F .f32) (x : Line F) : Line F :=
  concatenate S16x512 1 [⟨S16x256, broadcast S16x256 z⟩, ⟨S16x256, extractStridedSlice S16x256 ![0, 0] x slices_S16x512_o0_0_S16x256⟩]
    concatenates_S16x256_S16x256_S16x512_d1

/-- The number zero of a program's text. -/
def zero : F .f32 := Scalar.ofBits .f32 0x00000000#32

/-- The number one half of a program's text. -/
def half : F .f32 := Scalar.ofBits .f32 0x3F000000#32

/-- The named constant that stands for +∞. -/
def big : F .f32 := Named.named κ "big" 0x7149F2CA#32

/-- The step of the running sum that looks 1 column to the left. -/
def stepSum1 (x : Line F) : Line F := addf x (shift1 zero x)

/-- The step of the running sum that looks 2 columns to the left. -/
def stepSum2 (x : Line F) : Line F := addf x (shift2 zero x)

/-- The step of the running sum that looks 4 columns to the left. -/
def stepSum4 (x : Line F) : Line F := addf x (shift4 zero x)

/-- The step of the running sum that looks 8 columns to the left. -/
def stepSum8 (x : Line F) : Line F := addf x (shift8 zero x)

/-- The step of the running sum that looks 16 columns to the left. -/
def stepSum16 (x : Line F) : Line F := addf x (shift16 zero x)

/-- The step of the running sum that looks 32 columns to the left. -/
def stepSum32 (x : Line F) : Line F := addf x (shift32 zero x)

/-- The step of the running sum that looks 64 columns to the left. -/
def stepSum64 (x : Line F) : Line F := addf x (shift64 zero x)

/-- The step of the running sum that looks 128 columns to the left. -/
def stepSum128 (x : Line F) : Line F := addf x (shift128 zero x)

/-- The step of the running sum that looks 256 columns to the left. -/
def stepSum256 (x : Line F) : Line F := addf x (shift256 zero x)

/-- The running sum of a line along its columns, by nine doubling steps. -/
def scanSum (x : Line F) : Line F :=
  stepSum256 (stepSum128 (stepSum64 (stepSum32 (stepSum16 (stepSum8 (stepSum4 (stepSum2 (stepSum1 x))))))))

/-- The step of the running minimum that looks 1 column to the left. -/
def stepMin1 (x : Line F) : Line F := minimumf x (shift1 big x)

/-- The step of the running minimum that looks 2 columns to the left. -/
def stepMin2 (x : Line F) : Line F := minimumf x (shift2 big x)

/-- The step of the running minimum that looks 4 columns to the left. -/
def stepMin4 (x : Line F) : Line F := minimumf x (shift4 big x)

/-- The step of the running minimum that looks 8 columns to the left. -/
def stepMin8 (x : Line F) : Line F := minimumf x (shift8 big x)

/-- The step of the running minimum that looks 16 columns to the left. -/
def stepMin16 (x : Line F) : Line F := minimumf x (shift16 big x)

/-- The step of the running minimum that looks 32 columns to the left. -/
def stepMin32 (x : Line F) : Line F := minimumf x (shift32 big x)

/-- The step of the running minimum that looks 64 columns to the left. -/
def stepMin64 (x : Line F) : Line F := minimumf x (shift64 big x)

/-- The step of the running minimum that looks 128 columns to the left. -/
def stepMin128 (x : Line F) : Line F := minimumf x (shift128 big x)

/-- The step of the running minimum that looks 256 columns to the left. -/
def stepMin256 (x : Line F) : Line F := minimumf x (shift256 big x)

/-- The running minimum of a line along its columns, by nine doubling steps. -/
def scanMin (x : Line F) : Line F :=
  stepMin256 (stepMin128 (stepMin64 (stepMin32 (stepMin16 (stepMin8 (stepMin4 (stepMin2 (stepMin1 x))))))))

/-- The elementwise softplus of the mean of two lines: the weight of a step between them. -/
def weight (u v : Line F) : Line F :=
  let t := mulf (addf u v) (broadcast S16x512 half)
  addf (maximumf t (broadcast S16x512 zero)) (log1p (exp (subf (broadcast S16x512 zero) (absf t))))

/-- The line moved one column to the left, the last column repeated. -/
def leftward (x : Line F) : Line F :=
  concatenate S16x512 1 [⟨S16x511, extractStridedSlice S16x511 ![0, 1] x slices_S16x512_o0_1_S16x511⟩,
    ⟨S16x1, extractStridedSlice S16x1 ![0, 511] x slices_S16x512_o0_511_S16x1⟩] concatenates_S16x511_S16x1_S16x512_d1

/-- The cost of walking along a line from its first column, for every column. -/
def along (cur : Line F) : Line F := shift1 zero (scanSum (weight cur (leftward cur)))

/-- The best cost of entering a line at every column from the line above: straight down or diagonally. -/
def enter (prev cur d : Line F) : Line F :=
  minimumf (addf d (weight prev cur)) (addf (shift1 big d) (weight (shift1 big prev) cur))

/-- The distances of a line from the line above it, its distances and the line's own pixels. -/
def rowStep (prev cur d : Line F) : Line F :=
  addf (along cur) (scanMin (subf (enter prev cur d) (along cur)))

end Cert.Proof.Row

end
-- ==== Proof.MinPlus.lean ====
/- The mathematics of the shortest path on a grid, over the extended reals alone: the softplus weight of an edge, the
   recurrence of the distances row by row, running sums and running minima by doubling, and the identity by which one row
   of the recurrence is a running minimum of differences from the row's running sum. -/
module

public import Idealize.ShloMosaic.PureOps.Ideal

@[expose] public section

noncomputable section

namespace Cert.Proof.MinPlus

open Idealize.ShloMosaic

/-! ## The weight of an edge -/

/-- `log (1 + exp x)`, in the form that does not overflow. -/
def softplus (x : EReal) : EReal := max x 0 + Ideal.log1p (Ideal.exp (0 - max x (-x)))

/-- The weight of the edge between pixels `u` and `v`: the softplus of their mean. -/
def weight (u v : EReal) : EReal := softplus ((u + v) * ((1 / 2 : ℝ) : EReal))

/-- `log (1 + e^y)` is at least 0. -/
theorem log1p_exp_nonneg (y : EReal) : 0 ≤ Ideal.log1p (Ideal.exp y) := by
  induction y with
  | bot =>
    show (0 : EReal) ≤ Ideal.log (1 + 0)
    rw [add_zero]
    show (0 : EReal) ≤ if (1 : ℝ) ≤ 0 then ⊥ else ((Real.log 1 : ℝ) : EReal)
    rw [if_neg (by norm_num), Real.log_one]; exact le_rfl
  | top =>
    show (0 : EReal) ≤ Ideal.log (1 + ⊤)
    rw [EReal.add_top_of_ne_bot (by exact EReal.coe_ne_bot 1)]
    exact le_top
  | coe r =>
    show (0 : EReal) ≤ Ideal.log (((1 : ℝ) : EReal) + ((Real.exp r : ℝ) : EReal))
    rw [← EReal.coe_add]
    have h := Real.exp_pos r
    show (0 : EReal) ≤ if (1 + Real.exp r) ≤ 0 then ⊥ else ((Real.log (1 + Real.exp r) : ℝ) : EReal)
    rw [if_neg (by linarith)]
    exact EReal.coe_nonneg.2 (Real.log_nonneg (by linarith))

/-- `log (1 + e^y)` is not `+∞` unless `y` is. -/
theorem log1p_exp_ne_top (y : EReal) (hy : y ≠ ⊤) : Ideal.log1p (Ideal.exp y) ≠ ⊤ := by
  induction y with
  | bot =>
    show Ideal.log (1 + 0) ≠ ⊤
    rw [add_zero]
    show (if (1 : ℝ) ≤ 0 then ⊥ else ((Real.log 1 : ℝ) : EReal)) ≠ ⊤
    rw [if_neg (by norm_num)]; exact EReal.coe_ne_top _
  | top => exact absurd rfl hy
  | coe r =>
    show Ideal.log (((1 : ℝ) : EReal) + ((Real.exp r : ℝ) : EReal)) ≠ ⊤
    rw [← EReal.coe_add]
    have h := Real.exp_pos r
    show (if (1 + Real.exp r) ≤ 0 then ⊥ else ((Real.log (1 + Real.exp r) : ℝ) : EReal)) ≠ ⊤
    rw [if_neg (by linarith)]
    exact EReal.coe_ne_top _

/-- A softplus is at least 0. -/
theorem softplus_nonneg (x : EReal) : 0 ≤ softplus x :=
  add_nonneg (le_max_right _ _) (log1p_exp_nonneg _)

/-- A softplus is not `+∞` unless its argument is. -/
theorem softplus_ne_top (x : EReal) (hx : x ≠ ⊤) : softplus x ≠ ⊤ := by
  refine EReal.add_ne_top ?_ (log1p_exp_ne_top _ ?_)
  · rcases max_choice x 0 with h | h <;> rw [h]
    · exact hx
    · exact EReal.zero_ne_top
  · rw [zero_sub]
    intro h
    have h2 : max x (-x) = ⊥ := by rw [← neg_neg (max x (-x)), h]; rfl
    have h3 : x = ⊥ := le_bot_iff.1 (h2 ▸ le_max_left x (-x))
    rw [h3] at h2
    exact absurd h2 (by simp)

/-- A weight is never negative. -/
theorem weight_nonneg (u v : EReal) : 0 ≤ weight u v := softplus_nonneg _

/-- A weight is not `-∞`. -/
theorem weight_ne_bot (u v : EReal) : weight u v ≠ ⊥ := fun h =>
  absurd (h ▸ weight_nonneg u v) (by simp)

/-- The weight between two pixels below `+∞` is below `+∞`. -/
theorem weight_ne_top (u v : EReal) (hu : u ≠ ⊤) (hv : v ≠ ⊤) : weight u v ≠ ⊤ := by
  refine softplus_ne_top _ ?_
  have h := EReal.add_ne_top hu hv
  generalize u + v = t at h
  induction t with
  | bot => rw [EReal.bot_mul_coe_of_pos (by norm_num)]; exact bot_ne_top
  | top => exact absurd rfl h
  | coe r => rw [← EReal.coe_mul]; exact EReal.coe_ne_top _

/-! ## The recurrence -/

/-- The distances along the first row, whose pixels are `c`: only moves to the right. -/
def firstRow (c : ℕ → EReal) : ℕ → EReal
  | 0 => 0
  | j + 1 => firstRow c j + weight (c j) (c (j + 1))

/-- The distances along a row whose pixels are `c`, from the distances `d` of the row above, whose pixels are `p`. -/
def nextRow (p c d : ℕ → EReal) : ℕ → EReal
  | 0 => d 0 + weight (p 0) (c 0)
  | j + 1 => min (min (d (j + 1) + weight (p (j + 1)) (c (j + 1))) (d j + weight (p j) (c (j + 1))))
      (nextRow p c d j + weight (c j) (c (j + 1)))

/-- The distance of cell `(r, j)` of the image `img` from cell `(0, 0)`. -/
def dist (img : ℕ → ℕ → EReal) : ℕ → ℕ → EReal
  | 0 => firstRow (img 0)
  | r + 1 => nextRow (img r) (img (r + 1)) (dist img r)

/-- The first row's distances are at least 0. -/
theorem firstRow_nonneg (c : ℕ → EReal) : ∀ j, 0 ≤ firstRow c j
  | 0 => le_rfl
  | j + 1 => add_nonneg (firstRow_nonneg c j) (weight_nonneg _ _)

/-- A row's distances are at least 0 when those above are. -/
theorem nextRow_nonneg (p c d : ℕ → EReal) (hd : ∀ j, 0 ≤ d j) : ∀ j, 0 ≤ nextRow p c d j
  | 0 => add_nonneg (hd 0) (weight_nonneg _ _)
  | j + 1 => le_min (le_min (add_nonneg (hd _) (weight_nonneg _ _)) (add_nonneg (hd _) (weight_nonneg _ _)))
      (add_nonneg (nextRow_nonneg p c d hd j) (weight_nonneg _ _))

/-- No distance is negative. -/
theorem dist_nonneg (img : ℕ → ℕ → EReal) : ∀ r j, 0 ≤ dist img r j
  | 0, j => firstRow_nonneg _ j
  | r + 1, j => nextRow_nonneg _ _ _ (dist_nonneg img r) j

/-- On the columns below `n` the sums of the first row are real where the pixels are below `+∞`. -/
theorem firstRow_ne_top (c : ℕ → EReal) (n : ℕ) (hc : ∀ j < n, c j ≠ ⊤) : ∀ j < n, firstRow c j ≠ ⊤
  | 0, _ => EReal.zero_ne_top
  | j + 1, h => EReal.add_ne_top (firstRow_ne_top c n hc j (by omega)) (weight_ne_top _ _ (hc j (by omega)) (hc (j + 1) h))

/-! ## Running totals by doubling -/

section Doubling

variable {M : Type} (op : M → M → M) (e : M)

/-- The total of the `s` entries of `g` that end at `j` (fewer where there are not `s` of them). -/
def win (g : ℕ → M) : ℕ → ℕ → M
  | 0, _ => e
  | s + 1, j => op (g j) (if j = 0 then e else win g s (j - 1))

/-- The total of the entries of `g` up to `j`. -/
def pre (g : ℕ → M) : ℕ → M
  | 0 => g 0
  | j + 1 => op (g (j + 1)) (pre g j)

variable {op e}

/-- A window of one place is the value there. -/
theorem win_one (hr : ∀ x, op x e = x) (g : ℕ → M) (j : ℕ) : win op e g 1 j = g j := by
  show op (g j) (if j = 0 then e else e) = g j
  rw [ite_self, hr]

/-- The last `s + t` entries: the last `s`, then the `t` before them. -/
theorem win_add (ha : ∀ x y z, op (op x y) z = op x (op y z)) (hl : ∀ x, op e x = x) (hr : ∀ x, op x e = x) (g : ℕ → M) (t : ℕ) :
    ∀ s j, win op e g (s + t) j = op (win op e g s j) (if j < s then e else win op e g t (j - s))
  | 0, j => by rw [Nat.zero_add, if_neg (Nat.not_lt_zero j)]; exact (hl _).symm
  | s + 1, j => by
    rw [Nat.succ_add]
    show op (g j) (if j = 0 then e else win op e g (s + t) (j - 1))
      = op (op (g j) (if j = 0 then e else win op e g s (j - 1))) _
    rcases Nat.eq_zero_or_pos j with h | h
    · subst h; rw [if_pos rfl, if_pos rfl, if_pos (Nat.succ_pos s), hr, hr]
    · rw [if_neg (by omega), if_neg (by omega), win_add ha hl hr g t s (j - 1), ha]
      congr 2
      by_cases hs : j - 1 < s
      · rw [if_pos hs, if_pos (by omega)]
      · rw [if_neg hs, if_neg (by omega), show j - 1 - s = j - (s + 1) by omega]

/-- A window as long as the prefix is the prefix. -/
theorem win_pre (hr : ∀ x, op x e = x) (g : ℕ → M) : ∀ j s, j < s → win op e g s j = pre op g j
  | _, 0, h => absurd h (Nat.not_lt_zero _)
  | 0, s + 1, _ => by show op (g 0) (if 0 = 0 then e else _) = g 0; rw [if_pos rfl, hr]
  | j + 1, s + 1, h => by
    show op (g (j + 1)) (if j + 1 = 0 then e else win op e g s (j + 1 - 1)) = op (g (j + 1)) (pre op g j)
    rw [if_neg (Nat.succ_ne_zero j), Nat.add_sub_cancel, win_pre hr g j s (by omega)]

end Doubling

/-! ## One row as a running minimum -/

/-- With `p` the running sum of the weights along the row and `a` the best way into a cell from the row above, the
    running minimum of `a - p`, plus `p`, is the row of the recurrence. The sums `p` have to be real. -/
theorem row_eq (p a w : ℕ → EReal) (n : ℕ) (hp0 : p 0 = 0) (hp : ∀ j, j + 1 < n → p (j + 1) = p j + w j)
    (ht : ∀ j < n, p j ≠ ⊤) (hb : ∀ j < n, p j ≠ ⊥) (q : ℕ → EReal) (hq0 : q 0 = a 0)
    (hq : ∀ j, j + 1 < n → q (j + 1) = min (a (j + 1)) (q j + w j)) :
    ∀ j < n, p j + pre min (fun k => a k - p k) j = q j
  | 0, _ => by
    show p 0 + (a 0 - p 0) = q 0
    rw [hq0, hp0, sub_zero, zero_add]
  | j + 1, h => by
    show p (j + 1) + min (a (j + 1) - p (j + 1)) (pre min (fun k => a k - p k) j) = q (j + 1)
    rw [← min_add_add_left, hq j h, ← row_eq p a w n hp0 hp ht hb q hq0 hq j (by omega)]
    congr 1
    · have h1 := ht (j + 1) h
      have h2 := hb (j + 1) h
      rw [← EReal.coe_toReal h1 h2]
      rw [add_comm]
      exact EReal.sub_add_cancel
    · rw [hp j h, add_right_comm]

end Cert.Proof.MinPlus

end
-- ==== Proof.Index.lean ====
/- Arrays of two axes read at an index: a concatenation along the columns, a block of columns, and what a whole row of a
   line of sixteen rows holds. -/
module

public import proofs.«01_k».proof.Proof.MinPlus
public import Idealize.ShloMosaic.Lib.Pipeline.ValueKit

@[expose] public section

noncomputable section

namespace Cert.Proof.Index

open Idealize.ShloMosaic

variable {α : Type}

/-- A concatenation along the columns, read in its first piece. -/
theorem cat_left {R n1 n2 n : ℕ} (x1 : (⟨2, ![R, n1]⟩ : Shape).Idx → α) (x2 : (⟨2, ![R, n2]⟩ : Shape).Idx → α)
    (h : Shape.Concatenates [⟨2, ![R, n1]⟩, ⟨2, ![R, n2]⟩] ⟨2, ![R, n]⟩ 1) (b : Fin R) (j : Fin n) (k : Fin n1)
    (hk : k.val = j.val) :
    concatenate ⟨2, ![R, n]⟩ 1 [⟨⟨2, ![R, n1]⟩, x1⟩, ⟨⟨2, ![R, n2]⟩, x2⟩] h (ix2 b j) = x1 (ix2 b k) := by
  refine concatenate_pair_apply_left (t := ⟨2, ![R, n]⟩) 1 x1 x2 h (ix2 b j) rfl (ix2 b k) ?_
  intro a
  match a with
  | ⟨0, _⟩ => rfl
  | ⟨1, _⟩ => exact hk

/-- A concatenation along the columns, read in its second piece. -/
theorem cat_right {R n1 n2 n : ℕ} (x1 : (⟨2, ![R, n1]⟩ : Shape).Idx → α) (x2 : (⟨2, ![R, n2]⟩ : Shape).Idx → α)
    (h : Shape.Concatenates [⟨2, ![R, n1]⟩, ⟨2, ![R, n2]⟩] ⟨2, ![R, n]⟩ 1) (b : Fin R) (j : Fin n) (k : Fin n2)
    (hk : k.val + n1 = j.val) :
    concatenate ⟨2, ![R, n]⟩ 1 [⟨⟨2, ![R, n1]⟩, x1⟩, ⟨⟨2, ![R, n2]⟩, x2⟩] h (ix2 b j) = x2 (ix2 b k) := by
  refine concatenate_pair_apply_right (t := ⟨2, ![R, n]⟩) 1 x1 x2 h (ix2 b j) rfl rfl (ix2 b k) ?_ hk
  intro a ha
  match a with
  | ⟨0, _⟩ => rfl
  | ⟨1, _⟩ => exact absurd rfl ha

/-- A block of columns read at an index. -/
theorem cols_apply {R m n o : ℕ} (x : (⟨2, ![R, n]⟩ : Shape).Idx → α)
    (h : (⟨2, ![R, n]⟩ : Shape).Slices ![0, o] ⟨2, ![R, m]⟩) (b : Fin R) (j : Fin m) (k : Fin n) (hk : k.val = o + j.val) :
    extractStridedSlice ⟨2, ![R, m]⟩ ![0, o] x h (ix2 b j) = x (ix2 b k) := by
  show x _ = x _
  refine congrArg x (funext fun a => ?_)
  match a with
  | ⟨0, _⟩ => exact Fin.ext (Nat.zero_add _)
  | ⟨1, _⟩ => exact Fin.ext hk.symm

/-- Row `b` of the line `x` holds `g`. -/
def Reads (x : (⟨2, ![16, 512]⟩ : Shape).Idx → EReal) (b : Fin 16) (g : ℕ → EReal) : Prop :=
  ∀ j : Fin 512, x (ix2 b j) = g j.val

/-- What a row reads as may be replaced by a function with the same first 512 values. -/
theorem Reads.congr {x : (⟨2, ![16, 512]⟩ : Shape).Idx → EReal} {b : Fin 16} {g g' : ℕ → EReal} (h : Reads x b g)
    (e : ∀ j < 512, g j = g' j) : Reads x b g' :=
  fun j => (h j).trans (e j.val j.isLt)

/-- A line moved `n1` columns to the right, the free columns filled with `z`. -/
theorem shift_reads {n1 n2 : ℕ} (z : EReal) (x : (⟨2, ![16, 512]⟩ : Shape).Idx → EReal)
    (h1 : (⟨2, ![16, 512]⟩ : Shape).Slices ![0, 0] ⟨2, ![16, n2]⟩)
    (h2 : Shape.Concatenates [⟨2, ![16, n1]⟩, ⟨2, ![16, n2]⟩] ⟨2, ![16, 512]⟩ 1) (hn : n1 + n2 = 512)
    (b : Fin 16) (g : ℕ → EReal) (hx : Reads x b g) :
    Reads (concatenate ⟨2, ![16, 512]⟩ 1 [⟨⟨2, ![16, n1]⟩, fun _ => z⟩,
      ⟨⟨2, ![16, n2]⟩, extractStridedSlice ⟨2, ![16, n2]⟩ ![0, 0] x h1⟩] h2) b (fun j => if j < n1 then z else g (j - n1)) := by
  intro j
  show _ = if j.val < n1 then z else g (j.val - n1)
  by_cases hj : j.val < n1
  · rw [if_pos hj]
    exact cat_left _ _ h2 b j ⟨j.val, hj⟩ rfl
  · rw [if_neg hj]
    have hl := j.isLt
    have hk : j.val - n1 < n2 := by omega
    rw [cat_right _ _ h2 b j ⟨j.val - n1, hk⟩ (Nat.sub_add_cancel (Nat.le_of_not_lt hj)),
      cols_apply x h1 b ⟨j.val - n1, hk⟩ ⟨j.val - n1, by omega⟩ (Nat.zero_add _).symm]
    exact hx _

/-- Pixel `(r, j)` of image `b` (zero outside the image). -/
def pixel (x : (⟨3, ![16, 512, 512]⟩ : Shape).Idx → EReal) (b : Fin 16) (r j : ℕ) : EReal :=
  if h : r < 512 ∧ j < 512 then x (ix3 b ⟨r, h.1⟩ ⟨j, h.2⟩) else 0

/-- A pixel inside the image is the array's element there. -/
theorem pixel_eq (x : (⟨3, ![16, 512, 512]⟩ : Shape).Idx → EReal) (b : Fin 16) (r j : Fin 512) :
    pixel x b r.val j.val = x (ix3 b r j) := dif_pos ⟨r.isLt, j.isLt⟩

/-- No pixel is `+∞` when no element of the array is. -/
theorem pixel_ne_top (x : (⟨3, ![16, 512, 512]⟩ : Shape).Idx → EReal) (hx : ∀ i, x i ≠ ⊤) (b : Fin 16) (r j : ℕ) :
    pixel x b r j ≠ ⊤ := by
  unfold pixel
  split
  · exact hx _
  · exact EReal.zero_ne_top

end Cert.Proof.Index

end
-- ==== Proof.Lines.lean ====
/- The operations of one row update over the extended reals, read a row at a time: what a shift, a doubling step, a scan,
   a weight and the whole update hold in row `b` when their arguments' rows `b` are known. -/
module

public import proofs.«01_k».proof.Proof.Row
public import proofs.«01_k».proof.Proof.Index

@[expose] public section

set_option maxRecDepth 16384

noncomputable section

namespace Cert.Proof.Lines

open Idealize.ShloMosaic Idealize.SL.Sem Cert.KernelIdeal Cert.KernelIdeal.Gen Cert.Proof.Row Cert.Proof.Index Cert.Proof.MinPlus

/-! ## The numbers of the program's text -/

/-- The program's zero is 0. -/
theorem zero_eq : (zero : Ideal .f32) = 0 := Ideal.ofBits_zero_f32

/-- The program's half is 1/2. -/
theorem half_eq : (half : Ideal .f32) = ((1 / 2 : ℝ) : EReal) := by
  show Ideal.ofBits .f32 0x3F000000#32 = _
  simp [Ideal.ofBits, Ideal.ieee, -EReal.coe_mul]; norm_num

/-- The named constant `big` is `+∞`. -/
theorem big_eq : (big : Ideal .f32) = (⊤ : EReal) :=
  IdealRules.named_const.ideal_named_scalar _ _ _ _ rfl

/-! ## Shifts and doubling steps -/

variable {x y : Line Ideal} {b : Fin 16} {g : ℕ → EReal}

/-- A sum of two rows reads as the sum of what they read as. -/
theorem addf_reads {h : ℕ → EReal} (hx : Reads x b g) (hy : Reads y b h) : Reads (addf x y) b (fun j => g j + h j) := fun j => by
  show x _ + y _ = g j.val + h j.val
  rw [hx j, hy j]

/-- A difference of two rows reads as the difference of what they read as. -/
theorem subf_reads {h : ℕ → EReal} (hx : Reads x b g) (hy : Reads y b h) : Reads (subf x y) b (fun j => g j - h j) := fun j => by
  show x _ - y _ = g j.val - h j.val
  rw [hx j, hy j]

/-- A minimum of two rows reads as the minimum of what they read as. -/
theorem minimumf_reads {h : ℕ → EReal} (hx : Reads x b g) (hy : Reads y b h) :
    Reads (minimumf x y) b (fun j => min (g j) (h j)) := fun j => by
  show min (x _) (y _) = min (g j.val) (h j.val)
  rw [hx j, hy j]

/-- A shift by 1 reads as the row 1 places to the left, and as the fill before that. -/
theorem shift1_reads (z : Ideal .f32) (hx : Reads x b g) : Reads (shift1 z x) b (fun j => if j < 1 then z else g (j - 1)) :=
  shift_reads z x _ _ rfl b g hx

/-- A shift by 2 reads as the row 2 places to the left, and as the fill before that. -/
theorem shift2_reads (z : Ideal .f32) (hx : Reads x b g) : Reads (shift2 z x) b (fun j => if j < 2 then z else g (j - 2)) :=
  shift_reads z x _ _ rfl b g hx

/-- A shift by 4 reads as the row 4 places to the left, and as the fill before that. -/
theorem shift4_reads (z : Ideal .f32) (hx : Reads x b g) : Reads (shift4 z x) b (fun j => if j < 4 then z else g (j - 4)) :=
  shift_reads z x _ _ rfl b g hx

/-- A shift by 8 reads as the row 8 places to the left, and as the fill before that. -/
theorem shift8_reads (z : Ideal .f32) (hx : Reads x b g) : Reads (shift8 z x) b (fun j => if j < 8 then z else g (j - 8)) :=
  shift_reads z x _ _ rfl b g hx

/-- A shift by 16 reads as the row 16 places to the left, and as the fill before that. -/
theorem shift16_reads (z : Ideal .f32) (hx : Reads x b g) : Reads (shift16 z x) b (fun j => if j < 16 then z else g (j - 16)) :=
  shift_reads z x _ _ rfl b g hx

/-- A shift by 32 reads as the row 32 places to the left, and as the fill before that. -/
theorem shift32_reads (z : Ideal .f32) (hx : Reads x b g) : Reads (shift32 z x) b (fun j => if j < 32 then z else g (j - 32)) :=
  shift_reads z x _ _ rfl b g hx

/-- A shift by 64 reads as the row 64 places to the left, and as the fill before that. -/
theorem shift64_reads (z : Ideal .f32) (hx : Reads x b g) : Reads (shift64 z x) b (fun j => if j < 64 then z else g (j - 64)) :=
  shift_reads z x _ _ rfl b g hx

/-- A shift by 128 reads as the row 128 places to the left, and as the fill before that. -/
theorem shift128_reads (z : Ideal .f32) (hx : Reads x b g) : Reads (shift128 z x) b (fun j => if j < 128 then z else g (j - 128)) :=
  shift_reads z x _ _ rfl b g hx

/-- A shift by 256 reads as the row 256 places to the left, and as the fill before that. -/
theorem shift256_reads (z : Ideal .f32) (hx : Reads x b g) : Reads (shift256 z x) b (fun j => if j < 256 then z else g (j - 256)) :=
  shift_reads z x _ _ rfl b g hx

/-- A doubling step of the running sum: from the sums of the last `d` entries to those of the last `2 d`. -/
theorem sum_double {d : ℕ} {w : ℕ → EReal} {s : Line Ideal} (hx : Reads x b (win (· + ·) 0 w d))
    (hs : Reads s b (fun j => if j < d then (zero : Ideal .f32) else win (· + ·) 0 w d (j - d))) :
    Reads (addf x s) b (win (· + ·) 0 w (d + d)) :=
  (addf_reads hx hs).congr fun j _ => by
    rw [win_add add_assoc zero_add add_zero w d d j, zero_eq]

/-- A doubling step of the running minimum: from the minima of the last `d` entries to those of the last `2 d`. -/
theorem min_double {d : ℕ} {w : ℕ → EReal} {s : Line Ideal} (hx : Reads x b (win min ⊤ w d))
    (hs : Reads s b (fun j => if j < d then (big : Ideal .f32) else win min ⊤ w d (j - d))) :
    Reads (minimumf x s) b (win min ⊤ w (d + d)) :=
  (minimumf_reads hx hs).congr fun j _ => by
    rw [win_add min_assoc min_top_left min_top_right w d d j, big_eq]

/-- The doubling step by 1 takes sums over 1 places to sums over 2. -/
theorem stepSum1_reads (hx : Reads x b (win (· + ·) 0 g 1)) : Reads (stepSum1 x) b (win (· + ·) 0 g 2) :=
  sum_double hx (shift1_reads _ hx)

/-- The doubling step by 2 takes sums over 2 places to sums over 4. -/
theorem stepSum2_reads (hx : Reads x b (win (· + ·) 0 g 2)) : Reads (stepSum2 x) b (win (· + ·) 0 g 4) :=
  sum_double hx (shift2_reads _ hx)

/-- The doubling step by 4 takes sums over 4 places to sums over 8. -/
theorem stepSum4_reads (hx : Reads x b (win (· + ·) 0 g 4)) : Reads (stepSum4 x) b (win (· + ·) 0 g 8) :=
  sum_double hx (shift4_reads _ hx)

/-- The doubling step by 8 takes sums over 8 places to sums over 16. -/
theorem stepSum8_reads (hx : Reads x b (win (· + ·) 0 g 8)) : Reads (stepSum8 x) b (win (· + ·) 0 g 16) :=
  sum_double hx (shift8_reads _ hx)

/-- The doubling step by 16 takes sums over 16 places to sums over 32. -/
theorem stepSum16_reads (hx : Reads x b (win (· + ·) 0 g 16)) : Reads (stepSum16 x) b (win (· + ·) 0 g 32) :=
  sum_double hx (shift16_reads _ hx)

/-- The doubling step by 32 takes sums over 32 places to sums over 64. -/
theorem stepSum32_reads (hx : Reads x b (win (· + ·) 0 g 32)) : Reads (stepSum32 x) b (win (· + ·) 0 g 64) :=
  sum_double hx (shift32_reads _ hx)

/-- The doubling step by 64 takes sums over 64 places to sums over 128. -/
theorem stepSum64_reads (hx : Reads x b (win (· + ·) 0 g 64)) : Reads (stepSum64 x) b (win (· + ·) 0 g 128) :=
  sum_double hx (shift64_reads _ hx)

/-- The doubling step by 128 takes sums over 128 places to sums over 256. -/
theorem stepSum128_reads (hx : Reads x b (win (· + ·) 0 g 128)) : Reads (stepSum128 x) b (win (· + ·) 0 g 256) :=
  sum_double hx (shift128_reads _ hx)

/-- The doubling step by 256 takes sums over 256 places to sums over 512. -/
theorem stepSum256_reads (hx : Reads x b (win (· + ·) 0 g 256)) : Reads (stepSum256 x) b (win (· + ·) 0 g 512) :=
  sum_double hx (shift256_reads _ hx)

/-- The doubling step by 1 takes minima over 1 places to minima over 2. -/
theorem stepMin1_reads (hx : Reads x b (win min ⊤ g 1)) : Reads (stepMin1 x) b (win min ⊤ g 2) :=
  min_double hx (shift1_reads _ hx)

/-- The doubling step by 2 takes minima over 2 places to minima over 4. -/
theorem stepMin2_reads (hx : Reads x b (win min ⊤ g 2)) : Reads (stepMin2 x) b (win min ⊤ g 4) :=
  min_double hx (shift2_reads _ hx)

/-- The doubling step by 4 takes minima over 4 places to minima over 8. -/
theorem stepMin4_reads (hx : Reads x b (win min ⊤ g 4)) : Reads (stepMin4 x) b (win min ⊤ g 8) :=
  min_double hx (shift4_reads _ hx)

/-- The doubling step by 8 takes minima over 8 places to minima over 16. -/
theorem stepMin8_reads (hx : Reads x b (win min ⊤ g 8)) : Reads (stepMin8 x) b (win min ⊤ g 16) :=
  min_double hx (shift8_reads _ hx)

/-- The doubling step by 16 takes minima over 16 places to minima over 32. -/
theorem stepMin16_reads (hx : Reads x b (win min ⊤ g 16)) : Reads (stepMin16 x) b (win min ⊤ g 32) :=
  min_double hx (shift16_reads _ hx)

/-- The doubling step by 32 takes minima over 32 places to minima over 64. -/
theorem stepMin32_reads (hx : Reads x b (win min ⊤ g 32)) : Reads (stepMin32 x) b (win min ⊤ g 64) :=
  min_double hx (shift32_reads _ hx)

/-- The doubling step by 64 takes minima over 64 places to minima over 128. -/
theorem stepMin64_reads (hx : Reads x b (win min ⊤ g 64)) : Reads (stepMin64 x) b (win min ⊤ g 128) :=
  min_double hx (shift64_reads _ hx)

/-- The doubling step by 128 takes minima over 128 places to minima over 256. -/
theorem stepMin128_reads (hx : Reads x b (win min ⊤ g 128)) : Reads (stepMin128 x) b (win min ⊤ g 256) :=
  min_double hx (shift128_reads _ hx)

/-- The doubling step by 256 takes minima over 256 places to minima over 512. -/
theorem stepMin256_reads (hx : Reads x b (win min ⊤ g 256)) : Reads (stepMin256 x) b (win min ⊤ g 512) :=
  min_double hx (shift256_reads _ hx)

/-- The nine steps compute the running sum. -/
theorem scanSum_reads (hx : Reads x b g) : Reads (scanSum x) b (pre (· + ·) g) :=
  (stepSum256_reads (stepSum128_reads (stepSum64_reads (stepSum32_reads (stepSum16_reads (stepSum8_reads (stepSum4_reads (stepSum2_reads (stepSum1_reads (hx.congr (fun j _ => (win_one add_zero g j).symm))))))))))).congr
    fun j hj => win_pre add_zero g j 512 hj

/-- The nine steps compute the running minimum. -/
theorem scanMin_reads (hx : Reads x b g) : Reads (scanMin x) b (pre min g) :=
  (stepMin256_reads (stepMin128_reads (stepMin64_reads (stepMin32_reads (stepMin16_reads (stepMin8_reads (stepMin4_reads (stepMin2_reads (stepMin1_reads (hx.congr (fun j _ => (win_one min_top_right g j).symm))))))))))).congr
    fun j hj => win_pre min_top_right g j 512 hj

/-! ## The weights -/

/-- The weights between two lines. -/
theorem weight_reads {h : ℕ → EReal} (hx : Reads x b g) (hy : Reads y b h) :
    Reads (Row.weight x y) b (fun j => MinPlus.weight (g j) (h j)) := fun j => by
  show max ((x _ + y _) * (half : Ideal .f32)) (zero : Ideal .f32) + Ideal.log1p (Ideal.exp ((zero : Ideal .f32)
    - max ((x _ + y _) * (half : Ideal .f32)) (-((x _ + y _) * (half : Ideal .f32))))) = MinPlus.weight (g j.val) (h j.val)
  rw [hx j, hy j, zero_eq, half_eq]
  rfl

/-- The line moved one column to the left; its last column is not used. -/
theorem leftward_apply (hx : Reads x b g) (j : Fin 512) (h : j.val + 1 < 512) : leftward x (ix2 b j) = g (j.val + 1) := by
  exact (cat_left (extractStridedSlice S16x511 ![0, 1] x slices_S16x512_o0_1_S16x511)
    (extractStridedSlice S16x1 ![0, 511] x slices_S16x512_o0_511_S16x1) concatenates_S16x511_S16x1_S16x512_d1 b j
    ⟨j.val, by omega⟩ rfl).trans
    ((cols_apply (m := 511) x slices_S16x512_o0_1_S16x511 b ⟨j.val, by omega⟩ ⟨j.val + 1, h⟩ (Nat.add_comm _ _)).trans (hx _))

/-! ## The row update -/

/-- The running sum of a row's weights, one column to the right, is the first row of the recurrence. -/
theorem along_reads {c : ℕ → EReal} (hx : Reads x b c) : Reads (along x) b (firstRow c) := by
  have hl : Reads (leftward x) b (fun j => leftward x (ix2 b ⟨j % 512, Nat.mod_lt _ (by decide)⟩)) := fun j => by
    show _ = leftward x (ix2 b ⟨j.val % 512, _⟩)
    congr 2
    exact Fin.ext (Nat.mod_eq_of_lt j.isLt).symm
  refine (shift1_reads _ (scanSum_reads (weight_reads hx hl))).congr fun j => ?_
  induction j with
  | zero => exact fun _ => zero_eq
  | succ j ih =>
    intro hj
    have e : leftward x (ix2 b ⟨j % 512, Nat.mod_lt _ (by decide)⟩) = c (j + 1) := by
      rw [leftward_apply hx ⟨j % 512, Nat.mod_lt _ (by decide)⟩ (by show j % 512 + 1 < 512; omega)]
      show c (j % 512 + 1) = c (j + 1)
      rw [Nat.mod_eq_of_lt (by omega)]
    show (if j + 1 < 1 then _ else pre (· + ·) _ (j + 1 - 1)) = firstRow c j + MinPlus.weight (c j) (c (j + 1))
    rw [if_neg (by omega), Nat.add_sub_cancel, ← ih (by omega)]
    cases j with
    | zero =>
      show MinPlus.weight (c 0) _ = (zero : Ideal .f32) + _
      rw [zero_eq, zero_add, e]
    | succ j =>
      show MinPlus.weight (c (j + 1)) _ + pre (· + ·) _ j = (if j + 1 < 1 then _ else pre (· + ·) _ (j + 1 - 1)) + _
      rw [if_neg (by omega), Nat.add_sub_cancel, e, add_comm]

/-- The best way into a cell from the row above: at column 0 straight down, elsewhere straight down or diagonally. -/
theorem enter_reads {p c d : ℕ → EReal} {prev cur dl : Line Ideal} (hp : Reads prev b p) (hc : Reads cur b c) (hd : Reads dl b d) :
    Reads (enter prev cur dl) b (fun j => min (d j + MinPlus.weight (p j) (c j))
      (if j = 0 then ⊤ else d (j - 1) + MinPlus.weight (p (j - 1)) (c j))) :=
  (minimumf_reads (addf_reads hd (weight_reads hp hc))
    (addf_reads (shift1_reads big hd) (weight_reads (shift1_reads big hp) hc))).congr fun j _ => by
      rcases Nat.eq_zero_or_pos j with h | h
      · subst h
        rw [if_pos rfl, if_pos (by decide), if_pos (by decide), big_eq, EReal.top_add_of_ne_bot (weight_ne_bot _ _)]
      · rw [if_neg (by omega), if_neg (by omega), if_neg (by omega)]

/-- The row update is one row of the recurrence, where the row's pixels are below `+∞`. -/
theorem rowStep_reads {p c d : ℕ → EReal} {prev cur dl : Line Ideal} (hp : Reads prev b p) (hc : Reads cur b c) (hd : Reads dl b d)
    (hf : ∀ j < 512, c j ≠ ⊤) : Reads (rowStep prev cur dl) b (nextRow p c d) :=
  (addf_reads (along_reads hc) (scanMin_reads (subf_reads (enter_reads hp hc hd) (along_reads hc)))).congr
    (row_eq (firstRow c) _ (fun j => MinPlus.weight (c j) (c (j + 1))) 512 rfl (fun _ _ => rfl) (firstRow_ne_top c 512 hf)
      (fun j _ h => absurd (h ▸ firstRow_nonneg c j) (by simp)) (nextRow p c d)
      (by show d 0 + _ = min _ _; rw [if_pos rfl, min_top_right])
      (fun j _ => by
        show min (min _ _) _ = min (min _ (if j + 1 = 0 then _ else _)) _
        rw [if_neg (by omega), Nat.add_sub_cancel]))

end Cert.Proof.Lines

end
-- ==== Proof.Chain.lean ====
/- The body of one grid point as eight row updates: the chain of printed payloads a point runs, and the
   equation that it is the row update applied eight times. -/
module

public import proofs.«01_k».proof.Proof.Row
public import proofs.«01_k».proof.Proof.Gen.KernelIdeal.Skeleton
public import Idealize.ShloMosaic.Lib.Pipeline.ValueKit

@[expose] public section

set_option maxRecDepth 16384

noncomputable section

namespace Cert.Proof.Row

open Idealize.ShloMosaic Idealize.SL.Sem Cert.KernelIdeal Cert.KernelIdeal.Gen

variable {F : FTy → Type} [FloatOps F] [Named F]

/-- The payload chain of the first grid point, from the eight lines of its block. -/
def firstChain (r0 r1 r2 r3 r4 r5 r6 r7 : Line F) : Line F :=
  let v72 := k0_pay13 r0
  let v73 := k0_pay14
  let v74 := k0_pay15 r0
  let v110 := k0_pay16 r0 r1 v72 v73 v74
  let v118 := k0_pay18 r1
  let v122 := k0_pay19 r1
  let v163 := k0_pay20 v118 v122
  let v168 := k0_pay21 v110 v118 v122
  let v169 := k0_pay22
  let v170 := k0_pay23 v110 v118 v122
  let v213 := k0_pay25 r1 r2 v163 v168 v169 v170
  let v216 := k0_pay26 r1
  let v217 := k0_pay27
  let v218 := k0_pay28 v163 v168 v169 v170
  let v232 := k0_pay29 r2 v213 v216 v217 v218
  let v266 := k0_pay30 r2
  let cst_64 := zero
  let v285 := k0_pay31 v266 cst_64
  let v314 := k0_pay32 v232 v266 cst_64
  let cst_76 := big
  let v354 := k0_pay33 r2 r3 v285 v314 cst_76
  let v362 := k0_pay35 r3
  let v363 := k0_pay36 r3
  let v407 := k0_pay37 v362 v363
  let v408 := k0_pay38 v354 v362 v363
  let v411 := k0_pay39 v354 v362 v363
  let v445 := k0_pay40 v407 v408 v411
  let v457 := k0_pay41 r3 r4 v407 v408 v411
  let v458 := k0_pay42
  let v459 := k0_pay43 r3
  let v476 := k0_pay44 r4 v445 v457 v458 v459
  let v506 := k0_pay45 r4
  let v507 := k0_pay46
  let v529 := k0_pay47 v506 v507
  let v554 := k0_pay48 v476 v506 v507
  let v555 := k0_pay49
  let v598 := k0_pay50 r4 r5 v529 v554 v555
  let v604 := k0_pay51 r5
  let v651 := k0_pay52 v604
  let v652 := k0_pay53 v598 v604
  let v689 := k0_pay54 v651 v652
  let v700 := k0_pay55 r5 r6
  let v720 := k0_pay56 r5 r6 v689 v700
  let v746 := k0_pay57 r6
  let v747 := k0_pay58
  let v748 := k0_pay59 r6
  let v773 := k0_pay60 v746 v747 v748
  let v794 := k0_pay61 v720 v746 v747 v748
  let v795 := k0_pay62
  let v796 := k0_pay63 v720 v746 v747 v748
  let v842 := k0_pay64 r6 r7 v773 v794 v795 v796
  let v845 := k0_pay65 r7
  let v892 := k0_pay66 r7 v845
  let cst_218 := zero
  k0_pay67 v842 v892 cst_218

/-- The payload chain of every later grid point, from the eight lines of its block, the line before them (`v28`)
    and that line's distances (`v27`). -/
def laterChain (v28 v27 : Line F) (r0 r1 r2 r3 r4 r5 r6 r7 : Line F) : Line F :=
  let v59 := k0_pay68 r0 v27 v28
  let v67 := k0_pay70 r0
  let v71 := k0_pay71 r0
  let v112 := k0_pay72 v67 v71
  let v117 := k0_pay73 v59 v67 v71
  let v118 := k0_pay74
  let v119 := k0_pay75 v59 v67 v71
  let v162 := k0_pay77 r0 r1 v112 v117 v118 v119
  let v165 := k0_pay78 r0
  let v166 := k0_pay79
  let v167 := k0_pay80 v112 v117 v118 v119
  let v181 := k0_pay81 r1 v162 v165 v166 v167
  let v215 := k0_pay82 r1
  let cst_55 := zero
  let v234 := k0_pay83 v215 cst_55
  let v263 := k0_pay84 v181 v215 cst_55
  let cst_67 := big
  let v303 := k0_pay85 r1 r2 v234 v263 cst_67
  let v311 := k0_pay87 r2
  let v312 := k0_pay88 r2
  let v356 := k0_pay89 v311 v312
  let v357 := k0_pay90 v303 v311 v312
  let v360 := k0_pay91 v303 v311 v312
  let v394 := k0_pay92 v356 v357 v360
  let v406 := k0_pay93 r2 r3 v356 v357 v360
  let v407 := k0_pay94
  let v408 := k0_pay95 r2
  let v425 := k0_pay96 r3 v394 v406 v407 v408
  let v455 := k0_pay97 r3
  let v456 := k0_pay98
  let v478 := k0_pay99 v455 v456
  let v503 := k0_pay100 v425 v455 v456
  let v504 := k0_pay101
  let v547 := k0_pay102 r3 r4 v478 v503 v504
  let v553 := k0_pay103 r4
  let v600 := k0_pay104 v553
  let v601 := k0_pay105 v547 v553
  let v638 := k0_pay106 v600 v601
  let v649 := k0_pay107 r4 r5
  let v669 := k0_pay108 r4 r5 v638 v649
  let v695 := k0_pay109 r5
  let v696 := k0_pay110
  let v697 := k0_pay111 r5
  let v722 := k0_pay112 v695 v696 v697
  let v743 := k0_pay113 v669 v695 v696 v697
  let v744 := k0_pay114
  let v745 := k0_pay115 v669 v695 v696 v697
  let v791 := k0_pay116 r5 r6 v722 v743 v744 v745
  let v794 := k0_pay117 r6
  let v841 := k0_pay118 r6 v794
  let cst_209 := zero
  let v882 := k0_pay119 v791 v841 cst_209
  let v887 := k0_pay121 r6 r7
  let v888 := k0_pay122 r6 r7
  let v889 := k0_pay123
  let v913 := k0_pay124 r6 r7 v882 v887 v888 v889
  let v935 := k0_pay125 r7
  let v938 := k0_pay126 r7
  let v966 := k0_pay127 v935 v938
  let v983 := k0_pay128 v913 v935 v938
  let v986 := k0_pay129 v913 v935 v938
  k0_pay11 v966 v983 v986

/-- A later point's chain is eight row updates. -/
theorem laterChain_eq (p d r0 r1 r2 r3 r4 r5 r6 r7 : Line F) :
    laterChain p d r0 r1 r2 r3 r4 r5 r6 r7
      = rowStep r6 r7 (rowStep r5 r6 (rowStep r4 r5 (rowStep r3 r4 (rowStep r2 r3 (rowStep r1 r2 (rowStep r0 r1 (rowStep p r0 d))))))) := by
  have h : laterChain p d r0 r1 r2 r3 r4 r5 r6 r7
      = shapeCast S16x512 (rowStep r6 r7 (rowStep r5 r6 (rowStep r4 r5 (rowStep r3 r4 (rowStep r2 r3 (rowStep r1 r2 (rowStep r0 r1 (rowStep p r0 d)))))))) shapeCasts_S16x512_S16x512 := rfl
  rw [h, shapeCast_id]

/-- The first point's chain is the walk along the first line and seven row updates. -/
theorem firstChain_eq (r0 r1 r2 r3 r4 r5 r6 r7 : Line F) :
    firstChain r0 r1 r2 r3 r4 r5 r6 r7
      = rowStep r6 r7 (rowStep r5 r6 (rowStep r4 r5 (rowStep r3 r4 (rowStep r2 r3 (rowStep r1 r2 (rowStep r0 r1 (along r0))))))) := by
  have h : firstChain r0 r1 r2 r3 r4 r5 r6 r7
      = shapeCast S16x512 (rowStep r6 r7 (rowStep r5 r6 (rowStep r4 r5 (rowStep r3 r4 (rowStep r2 r3 (rowStep r1 r2 (rowStep r0 r1 (along r0)))))))) shapeCasts_S16x512_S16x512 := rfl
  rw [h, shapeCast_id]

end Cert.Proof.Row

end
-- ==== Proof.Leaves.lean ====
/- What each case of a grid point leaves in the two scratch buffers and the output block, as payload chains over
   the point's block and what the point before left. -/
module

public import proofs.«01_k».proof.Proof.Chain
public import proofs.«01_k».proof.Proof.Gen.KernelIdeal.Frame
public import Idealize.ShloMosaic.Lib.Pipeline.ValueKit

@[expose] public section

set_option maxRecDepth 16384

noncomputable section

namespace Cert.Proof.Row

open Idealize.ShloMosaic Idealize.ShloMosaic.TcCoe Idealize.SL.Sem Cert.KernelIdeal Cert.KernelIdeal.Gen

variable (m : (ℓ : Loc nD τ sig) → Buf (Elt Ideal) ℓ)

/-- The first point leaves the last line of its block in the scratch that holds the line. -/
theorem sout0_A_0_eq (c : Dev nD) (i : grid0.Coords) (arg1 : Memref sig .tc .vmem S8x16x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole)
    (hc0 : cond0_0 i) (hc1 : ¬cond0_1 i) (hc2 : ¬cond0_2 i) (x0 : Vec Ideal S8x16x512 .f32) :
    sout0_A_0 c i arg1 harg1 arg2 harg2 arg3 harg3 arg4 harg4 hc0 hc1 hc2 x0 = k0_pay9 x0 := by
  funext y
  frame_out
  exact congrFun (shapeCast_id (k0_pay9 x0) shapeCasts_S16x512_S16x512) y

/-- The first point leaves the result of its payload chain in the scratch that holds the distances. -/
theorem sout0_A_1_eq (c : Dev nD) (i : grid0.Coords) (arg1 : Memref sig .tc .vmem S8x16x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole)
    (hc0 : cond0_0 i) (hc1 : ¬cond0_1 i) (hc2 : ¬cond0_2 i) (x0 : Vec Ideal S8x16x512 .f32) :
    sout0_A_1 c i arg1 harg1 arg2 harg2 arg3 harg3 arg4 harg4 hc0 hc1 hc2 x0 = firstChain (k0_pay2 x0) (k0_pay3 x0) (k0_pay4 x0) (k0_pay5 x0) (k0_pay6 x0) (k0_pay7 x0) (k0_pay8 x0) (k0_pay9 x0) := by
  funext y
  frame_out
  rfl

/-- A middle point leaves the last line of its block in the scratch that holds the line. -/
theorem sout0_B_0_eq (c : Dev nD) (i : grid0.Coords) (arg1 : Memref sig .tc .vmem S8x16x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole)
    (hc0 : ¬cond0_0 i) (hc1 : cond0_1 i) (hc2 : ¬cond0_2 i) (x0 : Vec Ideal S8x16x512 .f32) (xs0 : Vec Ideal S16x512 .f32) (xs1 : Vec Ideal S16x512 .f32) :
    sout0_B_0 c i arg1 harg1 arg2 harg2 arg3 harg3 arg4 harg4 hc0 hc1 hc2 x0 xs0 xs1 = k0_pay9 x0 := by
  funext y
  frame_out
  exact congrFun (shapeCast_id (k0_pay9 x0) shapeCasts_S16x512_S16x512) y

/-- A middle point leaves the result of its payload chain in the scratch that holds the distances. -/
theorem sout0_B_1_eq (c : Dev nD) (i : grid0.Coords) (arg1 : Memref sig .tc .vmem S8x16x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole)
    (hc0 : ¬cond0_0 i) (hc1 : cond0_1 i) (hc2 : ¬cond0_2 i) (x0 : Vec Ideal S8x16x512 .f32) (xs0 : Vec Ideal S16x512 .f32) (xs1 : Vec Ideal S16x512 .f32) :
    sout0_B_1 c i arg1 harg1 arg2 harg2 arg3 harg3 arg4 harg4 hc0 hc1 hc2 x0 xs0 xs1 = laterChain xs0 xs1 (k0_pay2 x0) (k0_pay3 x0) (k0_pay4 x0) (k0_pay5 x0) (k0_pay6 x0) (k0_pay7 x0) (k0_pay8 x0) (k0_pay9 x0) := by
  funext y
  frame_out
  rfl

/-- The last point leaves the last line of its block in the scratch that holds the line. -/
theorem sout0_C_0_eq (c : Dev nD) (i : grid0.Coords) (arg1 : Memref sig .tc .vmem S8x16x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole)
    (hc0 : ¬cond0_0 i) (hc1 : cond0_1 i) (hc2 : cond0_2 i) (x0 : Vec Ideal S8x16x512 .f32) (xs0 : Vec Ideal S16x512 .f32) (xs1 : Vec Ideal S16x512 .f32) :
    sout0_C_0 c i arg1 harg1 arg2 harg2 arg3 harg3 arg4 harg4 hc0 hc1 hc2 x0 xs0 xs1 = k0_pay9 x0 := by
  funext y
  frame_out
  exact congrFun (shapeCast_id (k0_pay9 x0) shapeCasts_S16x512_S16x512) y

/-- The last point leaves the result of its payload chain in the scratch that holds the distances. -/
theorem sout0_C_1_eq (c : Dev nD) (i : grid0.Coords) (arg1 : Memref sig .tc .vmem S8x16x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole)
    (hc0 : ¬cond0_0 i) (hc1 : cond0_1 i) (hc2 : cond0_2 i) (x0 : Vec Ideal S8x16x512 .f32) (xs0 : Vec Ideal S16x512 .f32) (xs1 : Vec Ideal S16x512 .f32) :
    sout0_C_1 c i arg1 harg1 arg2 harg2 arg3 harg3 arg4 harg4 hc0 hc1 hc2 x0 xs0 xs1 = laterChain xs0 xs1 (k0_pay2 x0) (k0_pay3 x0) (k0_pay4 x0) (k0_pay5 x0) (k0_pay6 x0) (k0_pay7 x0) (k0_pay8 x0) (k0_pay9 x0) := by
  funext y
  frame_out
  rfl

/-- The last point stores the result of its payload chain in the output block. -/
theorem out0_C_1_eq (c : Dev nD) (i : grid0.Coords) (arg1 : Memref sig .tc .vmem S8x16x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S16x512 .f32) (harg4 : arg4.IsWhole)
    (hc0 : ¬cond0_0 i) (hc1 : cond0_1 i) (hc2 : cond0_2 i) (x0 : Vec Ideal S8x16x512 .f32) (xs0 : Vec Ideal S16x512 .f32) (xs1 : Vec Ideal S16x512 .f32) :
    out0_C_1 c i arg1 harg1 arg2 harg2 arg3 harg3 arg4 harg4 hc0 hc1 hc2 x0 xs0 xs1 = laterChain xs0 xs1 (k0_pay2 x0) (k0_pay3 x0) (k0_pay4 x0) (k0_pay5 x0) (k0_pay6 x0) (k0_pay7 x0) (k0_pay8 x0) (k0_pay9 x0) := by
  funext y
  frame_out
  rfl

end Cert.Proof.Row

end
-- ==== Proof.KernelValue.lean ====
/- What the kernel's result array holds over the extended reals: after each grid point the scratch holds the last image
   line of the point's block and its distances, by induction over the points; the last point stores the distances of the
   last line, and the program keeps their last column. -/
module

public import proofs.«01_k».proof.Proof.Lines
public import proofs.«01_k».proof.Proof.Leaves
public import Idealize.ShloMosaic.Lib.Claim

@[expose] public section

set_option maxRecDepth 16384

noncomputable section

namespace Cert.Proof.KernelValue

open Idealize.ShloMosaic Idealize.ShloMosaic.TcCoe Idealize.ShloMosaic.Tactic Idealize.SL.Sem
open Cert.KernelIdeal Cert.KernelIdeal.Gen Cert.Proof.Row Cert.Proof.Index Cert.Proof.Lines
open Idealize.ShloMosaic.Pipeline (Dat Cfg Window)
open Cert.Proof.MinPlus (dist)

/-! ## A block's lines -/

/-- Line `q` of a block of eight lines. -/
theorem line_apply (x : Vec Ideal S8x16x512 .f32) (q : ℕ) (h : S8x16x512.Slices ![q, 0, 0] S1x16x512) (b : Fin 16) (j : Fin 512)
    (hq : q < 8) :
    shapeCast S16x512 (extractStridedSlice S1x16x512 ![q, 0, 0] (shapeCast S8x16x512 x shapeCasts_S8x16x512_S8x16x512) h)
      shapeCasts_S1x16x512_S16x512 (ix2 b j) = x (ix3 ⟨q, hq⟩ b j) := by
  rw [shapeCast_id]
  pointwise

/-- Row 0 of a block of eight rows. -/
theorem pay2_apply (x : Vec Ideal S8x16x512 .f32) (b : Fin 16) (j : Fin 512) : k0_pay2 x (ix2 b j) = x (ix3 0 b j) :=
  line_apply x 0 _ b j (by decide)

/-- Row 1 of a block of eight rows. -/
theorem pay3_apply (x : Vec Ideal S8x16x512 .f32) (b : Fin 16) (j : Fin 512) : k0_pay3 x (ix2 b j) = x (ix3 1 b j) :=
  line_apply x 1 _ b j (by decide)

/-- Row 2 of a block of eight rows. -/
theorem pay4_apply (x : Vec Ideal S8x16x512 .f32) (b : Fin 16) (j : Fin 512) : k0_pay4 x (ix2 b j) = x (ix3 2 b j) :=
  line_apply x 2 _ b j (by decide)

/-- Row 3 of a block of eight rows. -/
theorem pay5_apply (x : Vec Ideal S8x16x512 .f32) (b : Fin 16) (j : Fin 512) : k0_pay5 x (ix2 b j) = x (ix3 3 b j) :=
  line_apply x 3 _ b j (by decide)

/-- Row 4 of a block of eight rows. -/
theorem pay6_apply (x : Vec Ideal S8x16x512 .f32) (b : Fin 16) (j : Fin 512) : k0_pay6 x (ix2 b j) = x (ix3 4 b j) :=
  line_apply x 4 _ b j (by decide)

/-- Row 5 of a block of eight rows. -/
theorem pay7_apply (x : Vec Ideal S8x16x512 .f32) (b : Fin 16) (j : Fin 512) : k0_pay7 x (ix2 b j) = x (ix3 5 b j) :=
  line_apply x 5 _ b j (by decide)

/-- Row 6 of a block of eight rows. -/
theorem pay8_apply (x : Vec Ideal S8x16x512 .f32) (b : Fin 16) (j : Fin 512) : k0_pay8 x (ix2 b j) = x (ix3 6 b j) :=
  line_apply x 6 _ b j (by decide)

/-- Row 7 of a block of eight rows. -/
theorem pay9_apply (x : Vec Ideal S8x16x512 .f32) (b : Fin 16) (j : Fin 512) : k0_pay9 x (ix2 b j) = x (ix3 7 b j) :=
  line_apply x 7 _ b j (by decide)

/-- Eight row updates take the distances of line `k` to those of line `k + 8`. -/
theorem later_reads {img : ℕ → ℕ → EReal} (hf : ∀ r j, img r j ≠ ⊤) {b : Fin 16} {k : ℕ} {p d : Line Ideal} {x : Vec Ideal S8x16x512 .f32}
    (hp : Reads p b (img k)) (hd : Reads d b (dist img k))
    (hx : ∀ (q : Fin 8) (j : Fin 512), x (ix3 q b j) = img (k + 1 + q.val) j.val) :
    Reads (laterChain p d (k0_pay2 x) (k0_pay3 x) (k0_pay4 x) (k0_pay5 x) (k0_pay6 x) (k0_pay7 x) (k0_pay8 x) (k0_pay9 x)) b
      (dist img (k + 8)) := by
  rw [laterChain_eq]
  have h0 : Reads (k0_pay2 x) b (img (k + 1)) := fun j => (pay2_apply x b j).trans (hx 0 j)
  have h1 : Reads (k0_pay3 x) b (img (k + 2)) := fun j => (pay3_apply x b j).trans (hx 1 j)
  have h2 : Reads (k0_pay4 x) b (img (k + 3)) := fun j => (pay4_apply x b j).trans (hx 2 j)
  have h3 : Reads (k0_pay5 x) b (img (k + 4)) := fun j => (pay5_apply x b j).trans (hx 3 j)
  have h4 : Reads (k0_pay6 x) b (img (k + 5)) := fun j => (pay6_apply x b j).trans (hx 4 j)
  have h5 : Reads (k0_pay7 x) b (img (k + 6)) := fun j => (pay7_apply x b j).trans (hx 5 j)
  have h6 : Reads (k0_pay8 x) b (img (k + 7)) := fun j => (pay8_apply x b j).trans (hx 6 j)
  have h7 : Reads (k0_pay9 x) b (img (k + 8)) := fun j => (pay9_apply x b j).trans (hx 7 j)
  exact rowStep_reads h6 h7 (rowStep_reads h5 h6 (rowStep_reads h4 h5 (rowStep_reads h3 h4 (rowStep_reads h2 h3 (rowStep_reads h1 h2 (rowStep_reads h0 h1 (rowStep_reads hp h0 hd (fun j _ => hf _ j)) (fun j _ => hf _ j)) (fun j _ => hf _ j)) (fun j _ => hf _ j)) (fun j _ => hf _ j)) (fun j _ => hf _ j)) (fun j _ => hf _ j)) (fun j _ => hf _ j)

/-- The first point's chain computes the distances of line 7. -/
theorem first_reads {img : ℕ → ℕ → EReal} (hf : ∀ r j, img r j ≠ ⊤) {b : Fin 16} {x : Vec Ideal S8x16x512 .f32}
    (hx : ∀ (q : Fin 8) (j : Fin 512), x (ix3 q b j) = img q.val j.val) :
    Reads (firstChain (k0_pay2 x) (k0_pay3 x) (k0_pay4 x) (k0_pay5 x) (k0_pay6 x) (k0_pay7 x) (k0_pay8 x) (k0_pay9 x)) b
      (dist img 7) := by
  rw [firstChain_eq]
  have h0 : Reads (k0_pay2 x) b (img 0) := fun j => (pay2_apply x b j).trans (hx 0 j)
  have h1 : Reads (k0_pay3 x) b (img 1) := fun j => (pay3_apply x b j).trans (hx 1 j)
  have h2 : Reads (k0_pay4 x) b (img 2) := fun j => (pay4_apply x b j).trans (hx 2 j)
  have h3 : Reads (k0_pay5 x) b (img 3) := fun j => (pay5_apply x b j).trans (hx 3 j)
  have h4 : Reads (k0_pay6 x) b (img 4) := fun j => (pay6_apply x b j).trans (hx 4 j)
  have h5 : Reads (k0_pay7 x) b (img 5) := fun j => (pay7_apply x b j).trans (hx 5 j)
  have h6 : Reads (k0_pay8 x) b (img 6) := fun j => (pay8_apply x b j).trans (hx 6 j)
  have h7 : Reads (k0_pay9 x) b (img 7) := fun j => (pay9_apply x b j).trans (hx 7 j)
  exact rowStep_reads h6 h7 (rowStep_reads h5 h6 (rowStep_reads h4 h5 (rowStep_reads h3 h4 (rowStep_reads h2 h3 (rowStep_reads h1 h2 (rowStep_reads h0 h1 (along_reads h0) (fun j _ => hf _ j)) (fun j _ => hf _ j)) (fun j _ => hf _ j)) (fun j _ => hf _ j)) (fun j _ => hf _ j)) (fun j _ => hf _ j)) (fun j _ => hf _ j)

/-! ## The points -/

variable (m : (ℓ : Loc nD τ sig) → Buf (Elt Ideal) ℓ)

/-- The pixels of image `b`. -/
abbrev img (c : Dev nD) (b : Fin 16) : ℕ → ℕ → EReal := pixel (m ((c.tc : Thread nD τ).loc main_arg0)) b

/-- The image's window moves one block of eight rows a step; the result's window stays. -/
theorem idx : ∀ t : Fin cfg0.N, win0_0.index t = ![t.val, 0, 0] ∧ win0_1.index t = ![0, 0] :=
  (by decide +kernel : ∀ t : Fin grid0.N, _)

/-- The array the region reads is the argument with its first two axes exchanged. -/
theorem entry_v0 (c : Dev nD) (r b j) :
    V m c main_v0 (ix3 (n0 := 512) (n1 := 16) (n2 := 512) r b j) = m ((c.tc : Thread nD τ).loc main_arg0) (ix3 b r j) := by
  have e : V m c main_v0 = transpose S512x16x512 [1, 0, 2] (m ((c.tc : Thread nD τ).loc main_arg0)) transposes_S16x512x512_S512x16x512_1_0_2 := by
    show StableHlo.after [_] _ _ = _
    after_results
  rw [e]
  pointwise

/-- The block of point `t` holds the image lines `8 t` to `8 t + 7`. -/
theorem iblk_apply (c : Dev nD) (t : Fin cfg0.N) (q : Fin 8) (b : Fin 16) (j : Fin 512) :
    iblk m c 0 t (ix3 q b j) = img m c b (8 * t.val + q.val) j.val := by
  have ht : t.val < 64 := lt_of_lt_of_eq t.isLt N_0
  have hr : 8 * t.val + q.val < 512 := by omega
  rw [show img m c b (8 * t.val + q.val) j.val = _ from pixel_eq _ b ⟨8 * t.val + q.val, hr⟩ j, ← entry_v0 m c]
  have hi := (idx t).1
  show V m c main_v0 ((win0_0.blk t).view.emb (ix3 q b j)) = _
  generalize V m c main_v0 = X
  blk_ext [hi]

/-- No pixel is `+∞`. -/
def Below : Prop := ∀ (c : Dev nD) (i : S16x512x512.Idx), m ((c.tc : Thread nD τ).loc main_arg0) i ≠ (⊤ : EReal)

/-- The distances of image `b`. -/
abbrev distances (c : Dev nD) (b : Fin 16) : ℕ → ℕ → EReal := dist (img m c b)

/-- After point `n` the scratch holds line `8 n + 7` of the images and its distances. -/
theorem scratch_reads (hf : Below m) (c : Dev nD) (b : Fin 16) :
    ∀ (n : ℕ) (hn : n < cfg0.N), Reads (outsAt0 m c n hn).2.1 b (img m c b (8 * n + 7))
      ∧ Reads (outsAt0 m c n hn).2.2 b (distances m c b (8 * n + 7)) := by
  have hp : ∀ r j, img m c b r j ≠ ⊤ := pixel_ne_top _ (hf c) b
  intro n
  induction n with
  | zero =>
    intro hn
    rw [outsAt0_A m c ⟨0, hn⟩ (Nat.zero_mod _) (show ¬1 ≤ 0 by decide) (show ¬0 % 64 = 63 by decide)]
    dsimp only
    rw [sout0_A_0_eq, sout0_A_1_eq]
    have hx : ∀ (q : Fin 8) (j : Fin 512), iblk m c 0 ⟨0, hn⟩ (ix3 q b j) = img m c b q.val j.val := fun q j => by
      rw [iblk_apply]; dsimp only; rw [Nat.mul_zero, Nat.zero_add]
    exact ⟨fun j => (pay9_apply _ b j).trans (hx 7 j), first_reads hp hx⟩
  | succ n ih =>
    intro hn
    have hN : n + 1 < 64 := lt_of_lt_of_eq hn N_0
    obtain ⟨hl, hd⟩ := ih (Nat.lt_of_succ_lt hn)
    have hx : ∀ (q : Fin 8) (j : Fin 512), iblk m c 0 ⟨n + 1, hn⟩ (ix3 q b j) = img m c b (8 * n + 7 + 1 + q.val) j.val := fun q j =>
      iblk_apply m c ⟨n + 1, hn⟩ q b j
    by_cases h2 : (n + 1) % 64 = 63
    · rw [outsAt0_C m c ⟨n + 1, hn⟩ (show ¬(n + 1) % 64 = 0 by omega) (Nat.le_add_left 1 n) h2]
      dsimp only
      rw [sout0_C_0_eq, sout0_C_1_eq]
      exact ⟨fun j => (pay9_apply _ b j).trans (hx 7 j), later_reads hp hl hd hx⟩
    · rw [outsAt0_B m c ⟨n + 1, hn⟩ (show ¬(n + 1) % 64 = 0 by omega) (Nat.le_add_left 1 n) h2]
      dsimp only
      rw [sout0_B_0_eq, sout0_B_1_eq]
      exact ⟨fun j => (pay9_apply _ b j).trans (hx 7 j), later_reads hp hl hd hx⟩

/-- The last point. -/
abbrev last : Fin cfg0.N := ⟨63, by rw [show cfg0.N = 64 from N_0]; decide⟩

/-- The last point stores the distances of the last line. -/
theorem stored_reads (hf : Below m) (c : Dev nD) (b : Fin 16) :
    Reads (outsAt0 m c last.val last.isLt).1 b (distances m c b 511) := by
  have h := (scratch_reads m hf c b 63 last.isLt).2
  rw [outsAt0_C m c last (by decide) (by decide) (by decide)] at h ⊢
  dsimp only at h ⊢
  rw [sout0_C_1_eq] at h
  rw [out0_C_1_eq]
  exact h

/-- The array the region writes holds the distances of the last line. -/
theorem final_reads (hf : Below m) (c : Dev nD) (b : Fin 16) :
    Reads ((dats m 0 c).arrAt 1 cfg0.N) b (distances m c b 511) := by
  have e : (dats m 0 c).arrAt 1 cfg0.N = (outsAt0 m c last.val last.isLt).1 := by
    refine (dats m 0 c).arrAt_eq_of_after_last 1 last (by decide +kernel) _ fun j => ?_
    blk_simp
    rw [after0_1]
  rw [e]
  exact stored_reads m hf c b

/-- The kernel's result is the distance of the last cell of every image. -/
theorem run (hf : Below m) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = (fun i : S16.Idx => distances m c (i 0) 511 511)
      ∧ r.2.mem ((c.tc : Thread nD τ).loc main_arg0) = m ((c.tc : Thread nD τ).loc main_arg0)) := by
  refine (θ_run _ _ _).mono (fun r h c => ⟨?_, h.1 c⟩) (θ_run_and (unchanged m ρ) (run_main m ρ))
  rw [((h.2 c).2 main_v3 (by decide))]
  unfold Pipeline.afterTail₀
  show StableHlo.after [_, _] _ _ = _
  after_results
  have e := Pipeline.withArrays_arr spec0 winFacts0.arr_inj c (V0 m c) (fun w => (dats m 0 c).arrAt w cfg0.N) 1
  have hr := final_reads m hf c
  generalize (dats m 0 c).arrAt 1 cfg0.N = X at e hr
  funext i
  refine Eq.trans ?_ (hr (i 0) 511)
  rw [← e]
  show shapeCast S16 (extractStridedSlice S16x1 ![0, 511] (Pipeline.withArrays spec0 c (V0 m c) (fun w => (dats m 0 c).arrAt w cfg0.N)
              (Proc.tc.devRef main_v1)) slices_S16x512_S16x1_0_511) shapeCasts_S16x1_S16 i = _
  generalize Pipeline.withArrays spec0 c (V0 m c) (fun w => (dats m 0 c).arrAt w cfg0.N) (Proc.tc.devRef main_v1) = Y
  rw [eq_ix1 i]
  pointwise

end Cert.Proof.KernelValue

end
-- ==== Proof.Cells.lean ====
/- The distances in row-major order of the cells, with an infinite entry in front: each entry from the second row on is the
   least of three earlier entries plus weights. -/
module

public import proofs.«01_k».proof.Proof.MinPlus

@[expose] public section

noncomputable section

namespace Cert.Proof.MinPlus

/-- `+∞`, then the distances row by row, 512 to a row. -/
def cells (img : ℕ → ℕ → EReal) : ℕ → EReal
  | 0 => ⊤
  | n + 1 => dist img (n / 512) (n % 512)

/-- No entry of `cells` is `-∞`. -/
theorem cells_ne_bot (img : ℕ → ℕ → EReal) : ∀ n, cells img n ≠ ⊥
  | 0 => top_ne_bot
  | n + 1 => ne_bot_of_le_ne_bot EReal.zero_ne_bot (dist_nonneg img (n / 512) (n % 512))

/-- Entry `512 r + j + 1` of `cells` is the distance of cell `(r, j)`. -/
theorem cells_eq (img : ℕ → ℕ → EReal) (n r j : ℕ) (hj : j < 512) (h : n = r * 512 + j + 1) : cells img n = dist img r j := by
  subst h
  show dist img ((r * 512 + j) / 512) ((r * 512 + j) % 512) = _
  rw [show (r * 512 + j) / 512 = r by omega, show (r * 512 + j) % 512 = j by omega]

/-- Cell `(r + 1, j)`, at place `t + 513` with `t = 512 r + j`: from above at place `t + 1`, along the diagonal at place `t`,
    from the left at place `t + 512`; on column 0 the last two have an infinite weight. -/
theorem cells_step (img : ℕ → ℕ → EReal) (t : ℕ) (wd wdg wr : EReal)
    (hd : wd = weight (img (t / 512) (t % 512)) (img (t / 512 + 1) (t % 512)))
    (hdg : wdg = if t % 512 = 0 then ⊤ else weight (img (t / 512) (t % 512 - 1)) (img (t / 512 + 1) (t % 512)))
    (hr : wr = if t % 512 = 0 then ⊤ else weight (img (t / 512 + 1) (t % 512 - 1)) (img (t / 512 + 1) (t % 512))) :
    min (min (cells img (t + 1) + wd) (cells img t + wdg)) (cells img (t + 512) + wr) = cells img (t + 513) := by
  subst hd hdg hr
  rw [cells_eq img (t + 513) (t / 512 + 1) (t % 512) (Nat.mod_lt _ (by decide)) (by omega),
    cells_eq img (t + 1) (t / 512) (t % 512) (Nat.mod_lt _ (by decide)) (by omega)]
  by_cases h : t % 512 = 0
  · rw [if_pos h, if_pos h, EReal.add_top_of_ne_bot (cells_ne_bot img _), EReal.add_top_of_ne_bot (cells_ne_bot img _),
      min_top_right, min_top_right, h]
    rfl
  · rw [if_neg h, if_neg h, cells_eq img t (t / 512) (t % 512 - 1) (by omega) (by omega),
      cells_eq img (t + 512) (t / 512 + 1) (t % 512 - 1) (by omega) (by omega)]
    obtain ⟨j, hj⟩ : ∃ j, t % 512 = j + 1 := ⟨t % 512 - 1, by omega⟩
    rw [hj, Nat.add_sub_cancel]
    rfl

/-- The first row is the running sum of its weights. -/
theorem firstRow_sum (c : ℕ → EReal) : ∀ j, firstRow c j = ∑ k ∈ Finset.range j, weight (c k) (c (k + 1))
  | 0 => rfl
  | j + 1 => by rw [Finset.sum_range_succ, ← firstRow_sum c j]; rfl

/-- A sum over 511 places of which the last `j + 1` are taken. -/
theorem window_sum (g : ℕ → EReal) (j : ℕ) (hj : j < 511) :
    ∑ n ∈ Finset.range 511, (if 510 ≤ j + n then g (j + n - 510) else 0) = ∑ k ∈ Finset.range (j + 1), g k := by
  rw [show 511 = (510 - j) + (j + 1) by omega, Finset.sum_range_add,
    Finset.sum_eq_zero (fun n hn => if_neg (by have := Finset.mem_range.1 hn; omega)), zero_add]
  refine Finset.sum_congr rfl fun k hk => ?_
  rw [if_pos (by omega), show j + (510 - j + k) - 510 = k by omega]

end Cert.Proof.MinPlus

end
-- ==== Proof.RefWeights.lean ====
/- The reference's weights, the first row's running sum and the five arrays its loop starts from, read at an index. -/
module

public import proofs.«01_k».proof.Proof.Cells
public import proofs.«01_k».proof.Proof.Index
public import proofs.«01_k».proof.Proof.Lines
public import proofs.«01_k».proof.Proof.Gen.ReferenceIdeal.Step
public import Idealize.ShloMosaic.Lib.KernelVsHost

@[expose] public section

set_option maxRecDepth 16384

noncomputable section

open Idealize Idealize.ShloMosaic
open Cert.ReferenceIdeal Cert.ReferenceIdeal.Gen Cert.ReferenceIdeal.Step
open Cert.Proof.MinPlus Cert.Proof.Index

namespace Cert.Proof.RefWeights

/-- The reference's softplus at one value, its zero named `z`. -/
theorem softplus_eq (t z : EReal) (hz : z = 0) :
    Scalar.select (Ideal.cmp .une (t - z) (t - z)) (t + z)
      (max t z + Ideal.log1p (Ideal.exp (-(max (t - z) (-(t - z)))))) = softplus t := by
  subst hz
  have h : Ideal.cmp .une (t - 0) (t - 0) = 0#1 := by simp [Ideal.cmp]
  rw [h, sub_zero]
  show max t 0 + Ideal.log1p (Ideal.exp (-(max t (-t)))) = max t 0 + Ideal.log1p (Ideal.exp (0 - max t (-t)))
  rw [zero_sub]

/-- The weights of the moves to the right. -/
theorem right_apply (x : S16x512x512.Idx → EReal) (b : Fin 16) (r : Fin 512) (j : Fin 511) :
    A_main_v5 (F := Ideal) x (ix3 b r j) = weight (pixel x b r.val j.val) (pixel x b r.val (j.val + 1)) := by
  have e0 : A_main_v0 (F := Ideal) x (ix3 b r j) = pixel x b r.val j.val :=
    Eq.trans (by unfold A_main_v0; pointwise) (pixel_eq x b r ⟨j.val, by omega⟩).symm
  have e1 : A_main_v1 (F := Ideal) x (ix3 b r j) = pixel x b r.val (1 + j.val) :=
    Eq.trans (by unfold A_main_v1; pointwise) (pixel_eq x b r ⟨1 + j.val, by omega⟩).symm
  rw [Nat.add_comm, ← e0, ← e1, weight, ← Lines.half_eq]
  exact softplus_eq _ _ Lines.zero_eq

/-- The weights of the moves down. -/
theorem down_apply (x : S16x512x512.Idx → EReal) (b : Fin 16) (r : Fin 511) (j : Fin 512) :
    A_main_v11 (F := Ideal) x (ix3 b r j) = weight (pixel x b r.val j.val) (pixel x b (r.val + 1) j.val) := by
  have e0 : A_main_v6 (F := Ideal) x (ix3 b r j) = pixel x b r.val j.val :=
    Eq.trans (by unfold A_main_v6; pointwise) (pixel_eq x b ⟨r.val, by omega⟩ j).symm
  have e1 : A_main_v7 (F := Ideal) x (ix3 b r j) = pixel x b (1 + r.val) j.val :=
    Eq.trans (by unfold A_main_v7; pointwise) (pixel_eq x b ⟨1 + r.val, by omega⟩ j).symm
  rw [Nat.add_comm, ← e0, ← e1, weight, ← Lines.half_eq]
  exact softplus_eq _ _ Lines.zero_eq

/-- The weights of the diagonal moves. -/
theorem diag_apply (x : S16x512x512.Idx → EReal) (b : Fin 16) (r : Fin 511) (j : Fin 511) :
    A_main_v17 (F := Ideal) x (ix3 b r j) = weight (pixel x b r.val j.val) (pixel x b (r.val + 1) (j.val + 1)) := by
  have e0 : A_main_v12 (F := Ideal) x (ix3 b r j) = pixel x b r.val j.val :=
    Eq.trans (by unfold A_main_v12; pointwise) (pixel_eq x b ⟨r.val, by omega⟩ ⟨j.val, by omega⟩).symm
  have e1 : A_main_v13 (F := Ideal) x (ix3 b r j) = pixel x b (1 + r.val) (1 + j.val) :=
    Eq.trans (by unfold A_main_v13; pointwise) (pixel_eq x b ⟨1 + r.val, by omega⟩ ⟨1 + j.val, by omega⟩).symm
  rw [Nat.add_comm, Nat.add_comm j.val, ← e0, ← e1, weight, ← Lines.half_eq]
  exact softplus_eq _ _ Lines.zero_eq

/-- The word of the reference's infinity is `+∞`. -/
theorem inf_eq : Ideal.ofBits .f32 0x7F800000#32 = ⊤ := by simp [Ideal.ofBits, Ideal.ieee]

/-! ## The first row -/

/-- Adding the values of a list one by one to `v` is `v` plus their sum. -/
theorem foldl_add {ι : Type} (f : ι → EReal) : ∀ (l : List ι) (v : EReal), l.foldl (fun r n => r + f n) v = v + (l.map f).sum
  | [], v => by simp
  | a :: l, v => by rw [List.foldl_cons, foldl_add f l, List.map_cons, List.sum_cons, add_assoc]

/-- The running sum along a row. -/
theorem cumsum_apply (y : S16x511.Idx → EReal) (init : S_.Idx → EReal) (hi : ∀ i, init i = 0) (b : Fin 16) (g : ℕ → EReal)
    (hy : ∀ j : Fin 511, y (ix2 b j) = g j.val) (j : Fin 511) :
    Host.reduceWindowAdd (F := Ideal) (φ := .f32) (t := S16x511) ![1, 511] ![1, 1] ![0, 510] ![0, 0] y init
      reduceWindows_S16x511_S16x511_w1s1p0_0_w511s1p510_0 h_S_ (ix2 b j) = ∑ k ∈ Finset.range (j.val + 1), g k := by
  rw [← window_sum g j.val j.isLt, ← Fin.sum_univ_eq_sum_range (fun n => if 510 ≤ j.val + n then g (j.val + n - 510) else 0)]
  have hN : (⟨2, ![1, 511]⟩ : Shape).numel = 511 := by decide +kernel
  rw [← (finCongr hN).sum_comp]
  refine (foldl_add _ _ _).trans ?_
  rw [hi, zero_add, Fin.sum_univ_def]
  congr 1
  refine List.map_congr_left fun n _ => ?_
  have hw := rowMajor_val2 ((⟨2, ![1, 511]⟩ : Shape).rowMajor.symm n) 511 rfl
  rw [Equiv.apply_symm_apply] at hw
  change (n : Nat) = _ at hw
  have h0 : (((⟨2, ![1, 511]⟩ : Shape).rowMajor.symm n) 0).val < 1 := (((⟨2, ![1, 511]⟩ : Shape).rowMajor.symm n) 0).isLt
  have h1 : (((⟨2, ![1, 511]⟩ : Shape).rowMajor.symm n) 1).val = n.val := by omega
  have hn : n.val < 511 := lt_of_lt_of_eq n.isLt hN
  have hj := j.isLt
  by_cases hin : 510 ≤ j.val + n.val
  · refine (dif_pos ?_).trans (Eq.trans ?_ (if_pos hin).symm)
    · intro a
      fin_cases a
      · refine ⟨Nat.zero_le _, ?_⟩
        show b.val * 1 + (((⟨2, ![1, 511]⟩ : Shape).rowMajor.symm n) 0).val - 0 < 16
        omega
      · show 510 ≤ j.val * 1 + (((⟨2, ![1, 511]⟩ : Shape).rowMajor.symm n) 1).val ∧
          j.val * 1 + (((⟨2, ![1, 511]⟩ : Shape).rowMajor.symm n) 1).val - 510 < 511
        omega
    · refine Eq.trans (congrArg y ?_) (hy ⟨j.val + n.val - 510, by omega⟩)
      funext a
      apply Fin.ext
      fin_cases a
      · show b.val * 1 + (((⟨2, ![1, 511]⟩ : Shape).rowMajor.symm n) 0).val - 0 = b.val
        omega
      · show j.val * 1 + (((⟨2, ![1, 511]⟩ : Shape).rowMajor.symm n) 1).val - 510 = j.val + n.val - 510
        omega
  · refine (dif_neg fun h => hin ?_).trans (if_neg hin).symm
    have h2 : 510 ≤ j.val * 1 + (((⟨2, ![1, 511]⟩ : Shape).rowMajor.symm n) 1).val := (h 1).1
    omega

/-- The first row of distances. -/
theorem first_apply (x : S16x512x512.Idx → EReal) (b : Fin 16) (j : Fin 512) :
    A_main_v22 (F := Ideal) x (ix2 b j) = firstRow (pixel x b 0) j.val := by
  by_cases hj : j.val = 0
  · refine (cat_left _ _ _ b j ⟨0, by decide⟩ hj.symm).trans ?_
    rw [hj]
    exact Lines.zero_eq
  · refine (cat_right _ _ _ b j ⟨j.val - 1, by omega⟩ (by show j.val - 1 + 1 = j.val; omega)).trans ?_
    unfold A_main_v21
    refine (cumsum_apply _ _ (fun _ => Lines.zero_eq) b (fun k => weight (pixel x b 0 k) (pixel x b 0 (k + 1))) (fun k => ?_)
      ⟨j.val - 1, by omega⟩).trans ?_
    · refine Eq.trans ?_ (right_apply x b 0 k)
      unfold A_main_v20 A_main_v19
      pointwise
    · rw [show (⟨j.val - 1, _⟩ : Fin 511).val + 1 = j.val by show j.val - 1 + 1 = j.val; omega, ← firstRow_sum]

/-- The row the loop starts from: the first 513 entries of `cells`. -/
theorem start_apply (x : S16x512x512.Idx → EReal) (b : Fin 16) (k : Fin 513) :
    A_main_v33 (F := Ideal) x (ix2 b k) = cells (pixel x b) k.val := by
  by_cases hk : k.val = 0
  · refine (cat_left _ _ _ b k ⟨0, by decide⟩ hk.symm).trans ?_
    rw [hk]
    exact inf_eq
  · refine (cat_right _ _ _ b k ⟨k.val - 1, by omega⟩ (by show k.val - 1 + 1 = k.val; omega)).trans ?_
    rw [first_apply, cells_eq (pixel x b) k.val 0 (k.val - 1) (by omega) (by omega)]
    rfl

/-! ## The loop's weights, one row of sixteen to a trip -/

/-- An array with one more column in front, off that column. -/
theorem front_succ {R m n : ℕ} (x : (⟨3, ![16, R, m]⟩ : Shape).Idx → EReal) (v : S_.Idx → EReal)
    (h : (⟨3, ![16, R, m]⟩ : Shape).Pads ![0, 0, 1] ![0, 0, 0] ![0, 0, 0] ⟨3, ![16, R, n]⟩) (hu : 0 < S_.numel)
    (b : Fin 16) (r : Fin R) (j : Fin n) (k : Fin m) (hk : j.val = k.val + 1) :
    pad ⟨3, ![16, R, n]⟩ ![0, 0, 1] ![0, 0, 0] ![0, 0, 0] x v h hu (ix3 b r j) = x (ix3 b r k) := by
  refine pad_apply_of_inside _ _ _ x v h hu _ _ fun a => ?_
  fin_cases a
  · show b.val = 0 + b.val * (0 + 1)
    omega
  · show r.val = 0 + r.val * (0 + 1)
    omega
  · show j.val = 1 + k.val * (0 + 1)
    omega

/-- An array with one more column in front, on that column. -/
theorem front_zero {R m n : ℕ} (x : (⟨3, ![16, R, m]⟩ : Shape).Idx → EReal) (v : S_.Idx → EReal)
    (h : (⟨3, ![16, R, m]⟩ : Shape).Pads ![0, 0, 1] ![0, 0, 0] ![0, 0, 0] ⟨3, ![16, R, n]⟩) (hu : 0 < S_.numel)
    (b : Fin 16) (r : Fin R) (j : Fin n) (hj : j.val = 0) :
    pad ⟨3, ![16, R, n]⟩ ![0, 0, 1] ![0, 0, 0] ![0, 0, 0] x v h hu (ix3 b r j) = v (Shape.Idx.first hu) := by
  refine pad_apply_of_not_inside _ _ _ x v h hu _ 2 fun hin => ?_
  have h1 : 1 ≤ j.val := hin.1
  omega

/-- The weight of the move down into cell `t`. -/
theorem loopDown_apply (x : S16x512x512.Idx → EReal) (b : Fin 16) (t : Fin 261632) :
    A_main_v26 (F := Ideal) x (ix2 t b) =
      weight (pixel x b (t.val / 512) (t.val % 512)) (pixel x b (t.val / 512 + 1) (t.val % 512)) := by
  refine Eq.trans ?_ (down_apply x b ⟨t.val / 512, by omega⟩ ⟨t.val % 512, by omega⟩)
  unfold A_main_v26 A_main_v25
  pointwise

/-- The weight of the diagonal move into cell `t`, infinite on column 0. -/
theorem loopDiag_apply (x : S16x512x512.Idx → EReal) (b : Fin 16) (t : Fin 261632) :
    A_main_v28 (F := Ideal) x (ix2 t b) = if t.val % 512 = 0 then ⊤ else
      weight (pixel x b (t.val / 512) (t.val % 512 - 1)) (pixel x b (t.val / 512 + 1) (t.val % 512)) := by
  have e : A_main_v28 (F := Ideal) x (ix2 t b) = A_main_v24 (F := Ideal) x (ix3 b ⟨t.val / 512, by omega⟩ ⟨t.val % 512, by omega⟩) := by
    unfold A_main_v28 A_main_v27
    pointwise
  rw [e]
  by_cases hj : t.val % 512 = 0
  · rw [if_pos hj]
    exact (front_zero _ _ _ _ b _ _ hj).trans inf_eq
  · rw [if_neg hj]
    refine (front_succ (m := 511) _ _ _ _ b _ _ ⟨t.val % 512 - 1, by omega⟩ (by show t.val % 512 = t.val % 512 - 1 + 1; omega)).trans ?_
    rw [diag_apply, show (⟨t.val % 512 - 1, _⟩ : Fin 511).val + 1 = t.val % 512 by show t.val % 512 - 1 + 1 = _; omega]

/-- The weight of the move to the right into cell `t`, infinite on column 0. -/
theorem loopRight_apply (x : S16x512x512.Idx → EReal) (b : Fin 16) (t : Fin 261632) :
    A_main_v31 (F := Ideal) x (ix2 t b) = if t.val % 512 = 0 then ⊤ else
      weight (pixel x b (t.val / 512 + 1) (t.val % 512 - 1)) (pixel x b (t.val / 512 + 1) (t.val % 512)) := by
  have e : A_main_v31 (F := Ideal) x (ix2 t b) =
      A_main_v23 (F := Ideal) x (ix3 b ⟨1 + t.val / 512, by omega⟩ ⟨t.val % 512, by omega⟩) := by
    unfold A_main_v31 A_main_v30 A_main_v29
    pointwise
  rw [e]
  by_cases hj : t.val % 512 = 0
  · rw [if_pos hj]
    exact (front_zero _ _ _ _ b _ _ hj).trans inf_eq
  · rw [if_neg hj]
    refine (front_succ (m := 511) _ _ _ _ b _ _ ⟨t.val % 512 - 1, by omega⟩ (by show t.val % 512 = t.val % 512 - 1 + 1; omega)).trans ?_
    rw [right_apply, show (⟨t.val % 512 - 1, _⟩ : Fin 511).val + 1 = t.val % 512 by show t.val % 512 - 1 + 1 = _; omega,
      Nat.add_comm (t.val / 512)]

end Cert.Proof.RefWeights

end
-- ==== Proof.RefValue.lean ====
/- What the reference computes: its loop holds the last 513 entries of `cells`, one cell further after every trip, so the
   result of batch element `b` is the distance of cell (511, 511) of image `b`. -/
module

public import proofs.«01_k».proof.Proof.RefWeights
public import proofs.«01_k».proof.Proof.RefRun

@[expose] public section

set_option maxRecDepth 16384

noncomputable section

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step
open Cert.Proof.MinPlus Cert.Proof.Index Cert.Proof.RefWeights

namespace Cert.Proof.RefValue

/-- Column `o` of the loop's row. -/
theorem column_apply (x : S16x513.Idx → EReal) (o : ℕ) (h : S16x513.Slices ![0, o] S16x1) (ho : o < 513) (b : Fin 16) :
    shapeCast S16 (extractStridedSlice S16x1 ![0, o] x h) shapeCasts_S16x1_S16 (ix1 b) = x (ix2 b ⟨o, ho⟩) := by
  have e : ∀ y : S16x1.Idx → EReal, shapeCast S16 y shapeCasts_S16x1_S16 (ix1 b) = y (ix2 b 0) := fun y => by pointwise
  rw [e]
  exact cols_apply x h b 0 ⟨o, ho⟩ rfl

/-- The loop's next row from the row it holds and the sixteen weights each of the three moves: the first entry dropped, the
    new cell at the end. -/
def nextCells (x : FVec Ideal S16x513 .f32) (d g r : FVec Ideal S16 .f32) : FVec Ideal S16x513 .f32 :=
  concatenate S16x513 1 [⟨S16x512, extractStridedSlice S16x512 ![0, 1] x slices_S16x513_S16x512_0_1⟩,
    ⟨S16x1, broadcastInDim S16x1 ![0] bcast_S16_S16x1_0 (minimumf (minimumf
      (addf (shapeCast S16 (extractStridedSlice S16x1 ![0, 1] x slices_S16x513_S16x1_0_1) shapeCasts_S16x1_S16) d)
      (addf (shapeCast S16 (extractStridedSlice S16x1 ![0, 0] x slices_S16x513_S16x1_0_0) shapeCasts_S16x1_S16) g))
      (addf (shapeCast S16 (extractStridedSlice S16x1 ![0, 512] x slices_S16x513_S16x1_0_512) shapeCasts_S16x1_S16) r))⟩]
    concatenates_S16x512_S16x1_S16x513_d1

/-- The last entry of the next row is the least of the three moves into the new cell. -/
theorem nextCells_last (x : FVec Ideal S16x513 .f32) (d g r : FVec Ideal S16 .f32) (b : Fin 16) (k : Fin 513) (hk : k.val = 512) :
    nextCells x d g r (ix2 b k) = min (min (x (ix2 b ⟨1, by decide⟩) + d (ix1 b)) (x (ix2 b ⟨0, by decide⟩) + g (ix1 b)))
      (x (ix2 b ⟨512, by decide⟩) + r (ix1 b)) := by
  refine (cat_right (n1 := 512) (n2 := 1) _ _ concatenates_S16x512_S16x1_S16x513_d1 b k ⟨0, by decide⟩ (by rw [hk])).trans ?_
  refine (broadcastInDim_apply _ _ _ _ (ix1 b) (by intro a; fin_cases a; rfl)).trans ?_
  rw [← column_apply x 1 slices_S16x513_S16x1_0_1, ← column_apply x 0 slices_S16x513_S16x1_0_0,
    ← column_apply x 512 slices_S16x513_S16x1_0_512]
  rfl

/-- Every other entry of the next row is the held row's entry one to the right. -/
theorem nextCells_kept (x : FVec Ideal S16x513 .f32) (d g r : FVec Ideal S16 .f32) (b : Fin 16) (k : Fin 513) (hk : k.val < 512) :
    nextCells x d g r (ix2 b k) = x (ix2 b ⟨1 + k.val, by omega⟩) :=
  (cat_left (n1 := 512) (n2 := 1) _ _ concatenates_S16x512_S16x1_S16x513_d1 b k ⟨k.val, hk⟩ rfl).trans
    (cols_apply x slices_S16x513_S16x512_0_1 b ⟨k.val, hk⟩ ⟨1 + k.val, by omega⟩ rfl)

/-- The sixteen weights the loop takes of an array by its counter. -/
def take (x : FVec Ideal S261632x16 .f32) (n : IVec S_ 32) : FVec Ideal S16 .f32 :=
  shapeCast S16 (Host.dynamicSlice S1x16 x (fun k => ((![n, constantI S_ 32 0#32] : Fin 2 → IVec S_ 32) k
    (Shape.Idx.first h_S_)).toInt) sliceFits_S261632x16_S1x16) shapeCasts_S1x16_S16

/-- Row `t` of an array of one row of sixteen to a trip, as the loop takes it by its counter. -/
theorem take_apply (x : S261632x16.Idx → EReal) (n : IVec S_ 32) (t : Fin 261632) (hn : n = constantI S_ 32 (BitVec.ofNat 32 t.val))
    (b : Fin 16) :
    take x n (ix1 b) = x (ix2 t b) := by
  subst hn
  have e : ∀ y : S1x16.Idx → EReal, shapeCast S16 y shapeCasts_S1x16_S16 (ix1 b) = y (ix2 0 b) := fun y => by pointwise
  have h0 : (BitVec.ofNat 32 t.val).toInt = t.val := by
    rw [BitVec.toInt_eq_toNat_of_lt (by rw [BitVec.toNat_ofNat]; omega), BitVec.toNat_ofNat]
    omega
  unfold take
  rw [e, Host.dynamicSlice_apply]
  refine congrArg x ?_
  funext a
  apply Fin.ext
  fin_cases a
  · show Host.clampedStart S261632x16 S1x16 _ _ 0 + 0 = t.val
    rw [Host.clampedStart_of_le _ _ 0 t.val h0 (by show t.val + 1 ≤ 261632; omega)]
    rfl
  · show Host.clampedStart S261632x16 S1x16 _ _ 1 + b.val = b.val
    rw [Host.clampedStart_of_le _ _ 1 0 rfl (by show 0 + 16 ≤ 16; omega), Nat.zero_add]

/-- What the loop holds before trip `t`. -/
structure At (x : S16x512x512.Idx → EReal) (t : ℕ) (V : Valuation τ sig (Elt Ideal)) : Prop where
  down : V (Proc.devRef .tc main_v34_0) = A_main_v26 (F := Ideal) x
  diag : V (Proc.devRef .tc main_v34_1) = A_main_v28 (F := Ideal) x
  right : V (Proc.devRef .tc main_v34_2) = A_main_v31 (F := Ideal) x
  count : V (Proc.devRef .tc main_v34_3) = constantI S_ 32 (BitVec.ofNat 32 t)
  row : ∀ (b : Fin 16) (k : Fin 513),
    (V (Proc.devRef .tc main_v34_4) : S16x513.Idx → EReal) (ix2 b k) = cells (pixel x b) (t + k.val)

/-- One trip moves one cell on. -/
theorem At.next {x : S16x512x512.Idx → EReal} {t : ℕ} {V : Valuation τ sig (Elt Ideal)} (h : At x t V) (ht : t < 261632) :
    At x (t + 1) (STEP V) where
  down := (STEP_main_v34_0 V).trans h.down
  diag := (STEP_main_v34_1 V).trans h.diag
  right := (STEP_main_v34_2 V).trans h.right
  count := by
    rw [STEP_main_v34_3]
    unfold Value.step_main_v34_3
    rw [h.count]
    funext i
    exact (BitVec.ofNat_add t 1).symm
  row := fun b k => by
    rw [STEP_main_v34_4]
    show nextCells (V (Proc.devRef .tc main_v34_4)) (take (V (Proc.devRef .tc main_v34_0)) (V (Proc.devRef .tc main_v34_3)))
      (take (V (Proc.devRef .tc main_v34_1)) (V (Proc.devRef .tc main_v34_3)))
      (take (V (Proc.devRef .tc main_v34_2)) (V (Proc.devRef .tc main_v34_3))) (ix2 b k) = _
    by_cases hk : k.val = 512
    · rw [nextCells_last _ _ _ _ b k hk, take_apply _ _ ⟨t, ht⟩ h.count, take_apply _ _ ⟨t, ht⟩ h.count,
        take_apply _ _ ⟨t, ht⟩ h.count, h.row, h.row, h.row, h.down, h.diag, h.right, loopDown_apply, loopDiag_apply,
        loopRight_apply, hk, show t + 1 + 512 = t + 513 by omega]
      exact cells_step (pixel x b) t _ _ _ rfl rfl rfl
    · rw [nextCells_kept _ _ _ _ b k (by omega), h.row, Nat.add_assoc]

/-- Before trip `t` the loop holds what `At` says, started where the reference starts it. -/
theorem at_trip (m : (ℓ : Loc nD τ sig) → Buf (Elt Ideal) ℓ) (c : Dev nD) :
    ∀ t, t ≤ 261632 → At (m ((c.tc : Thread nD τ).loc main_arg0)) t (STEP^[t] (entryContents preI m c))
  | 0, _ => ⟨RefRun.entry0 m c, RefRun.entry1 m c, RefRun.entry2 m c, RefRun.entry3 m c, fun b k => by
      show (entryContents preI m c (Proc.devRef .tc main_v34_4) : S16x513.Idx → EReal) (ix2 b k) = _
      rw [RefRun.entry4, start_apply, Nat.zero_add]⟩
  | t + 1, ht => by
      rw [Function.iterate_succ_apply']
      exact (at_trip m c t (by omega)).next (by omega)

/-- The reference's run: result `i` is the distance of cell (511, 511) of image `i`, and the argument is unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36)
        = (fun i : S16.Idx => dist (pixel (m ((c.tc : Thread nD τ).loc main_arg0)) (i 0)) 511 511)
      ∧ r.2.mem ((c.tc : Thread nD τ).loc main_arg0) = m ((c.tc : Thread nD τ).loc main_arg0) :=
  (θ_run _ _ _).mono (fun r h c => ⟨(h c).1.trans (funext fun i => by
    have hA := at_trip m c 261632 le_rfl
    rw [eq_ix1 i]
    refine (column_apply _ 512 _ (by decide) (i 0)).trans ((hA.row (i 0) _).trans ?_)
    exact cells_eq _ _ 511 511 (by decide) rfl), (h c).2⟩) (Value.run m ρ)

end Cert.Proof.RefValue

end
-- ==== Proof.Algebraic.lean ====
/- The kernel and the reference compute the same sixteen distances: with no pixel `+∞`, each result of either is the distance
   of cell (511, 511) of its image. -/
module

public import proofs.«01_k».proof.Defs
public import proofs.«01_k».proof.Proof.Gen.Pre_below_inf
public import proofs.«01_k».proof.Proof.KernelValue
public import proofs.«01_k».proof.Proof.RefValue
public import Idealize.ShloMosaic.Lib.ReduceAll
public import Idealize.ShloMosaic.Lib.Claim

@[expose] public section

noncomputable section

open Idealize.ShloMosaic Idealize.ShloMosaic.TcCoe Idealize.SL.Sem

namespace Cert.Proof.Algebraic

/-- A value that compares less than the word of `+∞` is not `+∞`. -/
theorem ne_top_of_less (y : EReal) (h : Ideal.cmp .olt y (Ideal.ofBits .f32 0x7F800000#32) = 1#1) : y ≠ ⊤ := by
  rw [RefWeights.inf_eq] at h
  have h2 : BitVec.ofBool (decide (y < ⊤)) = 1#1 := h
  by_contra hn
  rw [decide_eq_false (fun hlt => hlt.ne hn)] at h2
  exact absurd h2 (by decide)

/-- What the precondition says of the kernel's argument: no pixel is `+∞`. -/
theorem below (m : (ℓ : Loc Cert.KernelIdeal.nD Cert.KernelIdeal.τ Cert.KernelIdeal.sig) → Buf (Elt Ideal) ℓ)
    (hpre : Cert.Pre_KernelIdeal_below_inf m) : KernelValue.Below m := fun c i => by
  have h := congrFun (hpre c) (Shape.Idx.first Cert.Pre_below_inf.Facts.h_S_)
  unfold Cert.Pre_below_inf.fn at h
  exact ne_top_of_less _ (Host.reduce_andi_all _ _ _ _ _ h i)

/-- The two programs' results are equal, index by index, with no pixel `+∞`. -/
theorem algebraic : Cert.algebraic_KernelIdeal_ReferenceIdeal_pre_below_inf := by
  intro m g m' g' hpre hagree
  refine ⟨fun c => (fun i : Cert.KernelIdeal.S16.Idx => KernelValue.distances m c (i 0) 511 511),
    KernelValue.run m (below m hpre) g,
    (θ_run _ _ _).mono (fun r h c => ⟨(h c).1.trans ?_, (h c).2⟩) (RefValue.run m' g')⟩
  rw [hagree c]

end Cert.Proof.Algebraic

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Gen.Pre_below_inf
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its argument unchanged and every semaphore counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run _ _ _).mono (fun r h => ⟨fun c => (h c).2, sem_eq_zero_of_no_sems rfl r.2⟩) (Cert.ReferenceIdeal.Value.run m g)

/-- The kernel's one named constant, 1e30 under the name `big`, is +∞ at the ideal values. -/
theorem preserves : Cert.preserves_Kernel_KernelIdeal :=
  IdealRules.named_const.statement Cert.KernelIdeal.κ "big" .f32 0x7149F2CA#32 ⊤ rfl

theorem claim : Cert.Claim :=
  ⟨Cert.Kernel.Gen.facts, Cert.KernelIdeal.Gen.facts, Cert.ReferenceIdeal.Gen.facts, Cert.Pre_below_inf.Gen.facts,
    fun m g _ => Cert.Kernel.Gen.frame m g, fun m g _ => Cert.KernelIdeal.Gen.frame m g, fun m g _ => Cert.KernelIdeal.Gen.frame m g,
    fun m g _ => frame_reference m g, fun m g _ => frame_reference m g,
    preserves, Algebraic.algebraic⟩

end Cert.Proof

end
